-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x8x128 : S_.BroadcastsInDim S4x1024x8x128 (![] : Fin 0 → Fin S4x1024x8x128.rank)

variable [Facts]

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S4x256x1024 1 × IVec S1024x1024 1 × IVec S4x1024x8x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x8x128 .f32 := Host.absf main_arg2
  let main_cst_1 : FVec F S_ .f32 := constant S_ .f32 0x7F800000#32
  let main_v7 : FVec F S4x1024x8x128 .f32 := broadcastInDim S4x1024x8x128 ![] bcast_S_S4x1024x8x128 main_cst_1
  let main_v8 : IVec S4x1024x8x128 1 := cmpf .olt main_v6 main_v7
  (main_v2, main_v5, main_v8)
-- ==== Pre_scores_finite_ReferenceIdeal.lean ====
abbrev S4x256x1024 : Shape := ⟨3, ![4, 256, 1024]⟩
abbrev S1024x4096 : Shape := ⟨2, ![1024, 4096]⟩
abbrev S4x1024x8x128 : Shape := ⟨4, ![4, 1024, 8, 128]⟩
abbrev S4096x1024 : Shape := ⟨2, ![4096, 1024]⟩
abbrev S_ : Shape := ⟨0, ![]⟩

class Facts : Prop where
  bcast_S_S4x256x1024 : S_.BroadcastsInDim S4x256x1024 (![] : Fin 0 → Fin S4x256x1024.rank)
  bcast_S_S1024x4096 : S_.BroadcastsInDim S1024x4096 (![] : Fin 0 → Fin S1024x4096.rank)
  bcast_S_S4x1024x8x128 : S_.BroadcastsInDim S4x1024x8x128 (![] : Fin 0 → Fin S4x1024x8x128.rank)

variable [Facts]

def fn {F : FTy → Type} [FloatOps F] (main_arg0 : FVec F S4x256x1024 .f32) (main_arg1 : FVec F S1024x4096 .f32) (main_arg2 : FVec F S4x1024x8x128 .f32) (main_arg3 : FVec F S4x1024x8x128 .f32) (main_arg4 : FVec F S4096x1024 .f32) : IVec S4x256x1024 1 × IVec S1024x4096 1 × IVec S4x1024x8x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4x1024x8x128 .f32 := Host.absf main_arg2
  let main_cst_1 : FVec F S_ .f32 := constant S_ .f32 0x7F800000#32
  let main_v7 : FVec F S4x1024x8x128 .f32 := broadcastInDim S4x1024x8x128 ![] bcast_S_S4x1024x8x128 main_cst_1
  let main_v8 : IVec S4x1024x8x128 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S8x1024x128 : Shape := ⟨3, ![8, 1024, 128]⟩
abbrev S2x1024x128 : Shape := ⟨3, ![2, 1024, 128]⟩
abbrev S2x1024x256 : Shape := ⟨3, ![2, 1024, 256]⟩
abbrev S256x1024 : Shape := ⟨2, ![256, 1024]⟩
abbrev S3x256x1024 : Shape := ⟨3, ![3, 256, 1024]⟩
abbrev S4x4 : Shape := ⟨2, ![4, 4]⟩
abbrev S3 : Shape := ⟨1, ![3]⟩
abbrev S12 : Shape := ⟨1, ![12]⟩
abbrev S_ : Shape := ⟨0, ![]⟩
abbrev S1x1 : Shape := ⟨2, ![1, 1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x512 : Shape := ⟨2, ![256, 512]⟩
abbrev S1x1024x256 : Shape := ⟨3, ![1, 1024, 256]⟩
abbrev S1024x256 : Shape := ⟨2, ![1024, 256]⟩
abbrev S1024x1 : Shape := ⟨2, ![1024, 1]⟩
abbrev S1x256x1024 : Shape := ⟨3, ![1, 256, 1024]⟩
abbrev S1 : Shape := ⟨1, ![1]⟩
abbrev S128x1024 : Shape := ⟨2, ![128, 1024]⟩
abbrev S128x512 : Shape := ⟨2, ![128, 512]⟩
abbrev S512x128 : Shape := ⟨2, ![512, 128]⟩
abbrev S512x1024 : Shape := ⟨2, ![512, 1024]⟩
abbrev S512x256 : Shape := ⟨2, ![512, 256]⟩
abbrev S512x1 : Shape := ⟨2, ![512, 1]⟩
abbrev S1x128x1024 : Shape := ⟨3, ![1, 128, 1024]⟩

abbrev nBuf : Space → Nat
  | .hbm => 6
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S8x1024x128, .f32⟩
  | .local _ .vmem, ⟨8, _⟩ => ⟨S8x1024x128, .f32⟩
  | .local _ .vmem, ⟨9, _⟩ => ⟨S2x1024x128, .bf16⟩
  | .local _ .vmem, ⟨10, _⟩ => ⟨S2x1024x256, .bf16⟩
  | .local _ .vmem, ⟨11, _⟩ => ⟨S256x1024, .bf16⟩
  | .local _ .vmem, ⟨12, _⟩ => ⟨S256x1024, .bf16⟩
  | .local _ .vmem, ⟨13, _⟩ => ⟨S3x256x1024, .bf16⟩
  | .local _ .vmem, ⟨14, _⟩ => ⟨S3x256x1024, .bf16⟩
  | .local _ .vmem, ⟨15, _⟩ => ⟨S4x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) (c0_i32_15 : BitVec 32) : Fin 4 → Nat :=
  let c0_i32_16 : BitVec 32 := 0#32
  let c0_i32_22 : BitVec 32 := 0#32
  let c2_i32_14 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.muli c2_i32_14 v2
  let v18 : BitVec 32 := Scalar.addi v17 c0_i32_15
  let c0_i32_23 : BitVec 32 := 0#32
  ![0, 0, v18.toNat, 0]
def k0_off2 (d0 : Dev nD) (c0_i32_51 : BitVec 32) : Fin 4 → Nat :=
  let c1_i32_52 : BitVec 32 := 1#32
  let c0_i32_58 : BitVec 32 := 0#32
  let c2_i32_50 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.muli c2_i32_50 v2
  let v46 : BitVec 32 := Scalar.addi v45 c0_i32_51
  let c0_i32_59 : BitVec 32 := 0#32
  ![1, 0, v46.toNat, 0]
def k0_off3 (d0 : Dev nD) (c0_i32_87 : BitVec 32) : Fin 4 → Nat :=
  let c2_i32_88 : BitVec 32 := 2#32
  let c0_i32_94 : BitVec 32 := 0#32
  let c2_i32_86 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.muli c2_i32_86 v2
  let v74 : BitVec 32 := Scalar.addi v73 c0_i32_87
  let c0_i32_95 : BitVec 32 := 0#32
  ![2, 0, v74.toNat, 0]
def k0_off4 (d0 : Dev nD) (c0_i32_122 : BitVec 32) : Fin 4 → Nat :=
  let c3_i32_123 : BitVec 32 := 3#32
  let c0_i32_128 : BitVec 32 := 0#32
  let c2_i32_121 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.muli c2_i32_121 v2
  let v102 : BitVec 32 := Scalar.addi v101 c0_i32_122
  let c0_i32_129 : BitVec 32 := 0#32
  ![3, 0, v102.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_177 : BitVec 32 := 0#32
  ![v2.toNat, 0]
def k0_off6 (d0 : Dev nD) (c0_i32_176 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_175 : BitVec 32 := 2#32
  let v163 : BitVec 32 := Scalar.muli v2 c2_i32_175
  let v164 : BitVec 32 := Scalar.addi v163 c0_i32_176
  let c0_i32_178 : BitVec 32 := 0#32
  let c0_i32_179 : BitVec 32 := 0#32
  ![v164.toNat, 0, 0]
def k0_off7 (d0 : Dev nD) (c0_i32_174 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_180 : BitVec 32 := 0#32
  let c2_i32_173 : BitVec 32 := 2#32
  let v161 : BitVec 32 := Scalar.muli c2_i32_173 v2
  let v162 : BitVec 32 := Scalar.addi v161 c0_i32_174
  let c0_i32_181 : BitVec 32 := 0#32
  ![v2.toNat, 0, v162.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_184 : BitVec 32 := 2#32
  ![v2.toNat, 2]
def k0_off9 (d0 : Dev nD) (c0_i32_190 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_189 : BitVec 32 := 2#32
  let v179 : BitVec 32 := Scalar.muli v2 c2_i32_189
  let v180 : BitVec 32 := Scalar.addi v179 c0_i32_190
  let v181 : Index := Scalar.indexCast v180
  let c0_191 : Index := 0#32
  let c0_192 : Index := 0#32
  ![v181.toNat, 0, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_207 : BitVec 32 := 1#32
  ![v2.toNat, 1]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_214 : BitVec 32 := 3#32
  ![v2.toNat, 3]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v233 : BitVec 32 := Scalar.muli v2 c256_i32
  let v234 : Index := Scalar.indexCast v233
  let c0_233 : Index := 0#32
  ![v234.toNat, 0]
def k0_dev4 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_278 : BitVec 32 := 1#32
  let v295 : BitVec 32 := Scalar.muli v7 c1_i32_278
  let v296 : BitVec 32 := Scalar.addi c0_i32_279 v295
  v296.toNat
def k0_off13 (d0 : Dev nD) (c1_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c0_i32_291 : BitVec 32 := 0#32
  ![v307.toNat, 0]
def k0_off14 (d0 : Dev nD) (c1_i32_284 : BitVec 32) (c0_i32_290 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c2_i32_289 : BitVec 32 := 2#32
  let v310 : BitVec 32 := Scalar.muli v307 c2_i32_289
  let v311 : BitVec 32 := Scalar.addi v310 c0_i32_290
  let c0_i32_292 : BitVec 32 := 0#32
  let c0_i32_293 : BitVec 32 := 0#32
  ![v311.toNat, 0, 0]
def k0_off15 (d0 : Dev nD) (c1_i32_284 : BitVec 32) (c0_i32_288 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c0_i32_294 : BitVec 32 := 0#32
  let c2_i32_287 : BitVec 32 := 2#32
  let v308 : BitVec 32 := Scalar.muli c2_i32_287 v2
  let v309 : BitVec 32 := Scalar.addi v308 c0_i32_288
  let c0_i32_295 : BitVec 32 := 0#32
  ![v307.toNat, 0, v309.toNat, 0]
def k0_off16 (d0 : Dev nD) (c1_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c2_i32_298 : BitVec 32 := 2#32
  ![v307.toNat, 2]
def k0_off17 (d0 : Dev nD) (c1_i32_284 : BitVec 32) (c0_i32_304 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c2_i32_303 : BitVec 32 := 2#32
  let v326 : BitVec 32 := Scalar.muli v307 c2_i32_303
  let v327 : BitVec 32 := Scalar.addi v326 c0_i32_304
  let v328 : Index := Scalar.indexCast v327
  let c0_305 : Index := 0#32
  let c0_306 : Index := 0#32
  ![v328.toNat, 0, 0]
def k0_off18 (d0 : Dev nD) (c1_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c1_i32_321 : BitVec 32 := 1#32
  ![v307.toNat, 1]
def k0_off19 (d0 : Dev nD) (c1_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c3_i32_328 : BitVec 32 := 3#32
  ![v307.toNat, 3]
def k0_off20 (d0 : Dev nD) (c1_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : BitVec 32 := Scalar.subi v2 c1_i32_284
  let c4_i32_285 : BitVec 32 := 4#32
  let v306 : BitVec 32 := Scalar.addi v305 c4_i32_285
  let c4_i32_286 : BitVec 32 := 4#32
  let v307 : BitVec 32 := Scalar.remsi v306 c4_i32_286
  let c256_i32_347 : BitVec 32 := 256#32
  let v380 : BitVec 32 := Scalar.muli v307 c256_i32_347
  let v381 : Index := Scalar.indexCast v380
  let c0_348 : Index := 0#32
  ![v381.toNat, 0]
def k0_dev5 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_416 : BitVec 32 := 1#32
  let v460 : BitVec 32 := Scalar.muli v7 c1_i32_416
  let v461 : BitVec 32 := Scalar.addi c0_i32_417 v460
  v461.toNat
def k0_dev6 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_553 : BitVec 32 := 1#32
  let v625 : BitVec 32 := Scalar.muli v7 c1_i32_553
  let v626 : BitVec 32 := Scalar.addi c0_i32_554 v625
  v626.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c0_i32_565 : BitVec 32 := 0#32
  ![v636.toNat, 0]
def k0_off22 (d0 : Dev nD) (c0_i32_564 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c2_i32_563 : BitVec 32 := 2#32
  let v639 : BitVec 32 := Scalar.muli v636 c2_i32_563
  let v640 : BitVec 32 := Scalar.addi v639 c0_i32_564
  let c0_i32_566 : BitVec 32 := 0#32
  let c0_i32_567 : BitVec 32 := 0#32
  ![v640.toNat, 0, 0]
def k0_off23 (d0 : Dev nD) (c0_i32_562 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c0_i32_568 : BitVec 32 := 0#32
  let c2_i32_561 : BitVec 32 := 2#32
  let v637 : BitVec 32 := Scalar.muli c2_i32_561 v2
  let v638 : BitVec 32 := Scalar.addi v637 c0_i32_562
  let c0_i32_569 : BitVec 32 := 0#32
  ![v636.toNat, 0, v638.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c2_i32_572 : BitVec 32 := 2#32
  ![v636.toNat, 2]
def k0_off25 (d0 : Dev nD) (c0_i32_578 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c2_i32_577 : BitVec 32 := 2#32
  let v655 : BitVec 32 := Scalar.muli v636 c2_i32_577
  let v656 : BitVec 32 := Scalar.addi v655 c0_i32_578
  let v657 : Index := Scalar.indexCast v656
  let c0_579 : Index := 0#32
  let c0_580 : Index := 0#32
  ![v657.toNat, 0, 0]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c1_i32_595 : BitVec 32 := 1#32
  ![v636.toNat, 1]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c3_i32_602 : BitVec 32 := 3#32
  ![v636.toNat, 3]
def k0_off28 (d0 : Dev nD) (c0_i32_641 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_559 : BitVec 32 := 1#32
  let v635 : BitVec 32 := Scalar.addi v2 c1_i32_559
  let c4_i32_560 : BitVec 32 := 4#32
  let v636 : BitVec 32 := Scalar.remsi v635 c4_i32_560
  let c256_i32_640 : BitVec 32 := 256#32
  let v723 : BitVec 32 := Scalar.muli v636 c256_i32_640
  let v724 : BitVec 32 := Scalar.addi v723 c0_i32_641
  let v725 : Index := Scalar.indexCast v724
  let c0_642 : Index := 0#32
  ![v725.toNat, 0]
def k0_dev7 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_693 : BitVec 32 := 1#32
  let v793 : BitVec 32 := Scalar.muli v7 c1_i32_693
  let v794 : BitVec 32 := Scalar.addi c0_i32_694 v793
  v794.toNat
def k0_dev8 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_703 : BitVec 32 := 1#32
  let v803 : BitVec 32 := Scalar.muli v5 c1_i32_703
  let v804 : BitVec 32 := Scalar.addi c0_i32_704 v803
  v804.toNat
def k0_dev9 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_713 : BitVec 32 := 1#32
  let v813 : BitVec 32 := Scalar.muli v9 c1_i32_713
  let v814 : BitVec 32 := Scalar.addi c0_i32_714 v813
  v814.toNat
def k0_dev10 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_771 : BitVec 32 := 1#32
  let v893 : BitVec 32 := Scalar.muli v7 c1_i32_771
  let v894 : BitVec 32 := Scalar.addi c0_i32_772 v893
  v894.toNat
def k0_dev11 (d0 : Dev nD) : Nat :=
  let c0_i32_780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_779 : BitVec 32 := 1#32
  let v903 : BitVec 32 := Scalar.muli v5 c1_i32_779
  let v904 : BitVec 32 := Scalar.addi c0_i32_780 v903
  v904.toNat
def k0_dev12 (d0 : Dev nD) : Nat :=
  let c0_i32_788 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_787 : BitVec 32 := 1#32
  let v913 : BitVec 32 := Scalar.muli v9 c1_i32_787
  let v914 : BitVec 32 := Scalar.addi c0_i32_788 v913
  v914.toNat
def k0_off29 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c256_i32_917 : BitVec 32 := 256#32
  let v1018 : BitVec 32 := Scalar.muli v9 c256_i32_917
  let v1019 : Index := Scalar.indexCast v1018
  let c0_918 : Index := 0#32
  ![v1019.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4x1024x8x128 : Shape := ⟨4, ![4, 1024, 8, 128]⟩
abbrev S4096x1024 : Shape := ⟨2, ![4096, 1024]⟩
abbrev S4x256x4096 : Shape := ⟨3, ![4, 256, 4096]⟩
abbrev S4x256x32x128 : Shape := ⟨4, ![4, 256, 32, 128]⟩
abbrev S4x1024x8x4x128 : Shape := ⟨5, ![4, 1024, 8, 4, 128]⟩
abbrev S4x1024x32x128 : Shape := ⟨4, ![4, 1024, 32, 128]⟩
abbrev S_ : Shape := ⟨0, ![]⟩
abbrev S4x32x256x1 : Shape := ⟨4, ![4, 32, 256, 1]⟩
abbrev S4x32x256x1024 : Shape := ⟨4, ![4, 32, 256, 1024]⟩
abbrev S4x32x256 : Shape := ⟨3, ![4, 32, 256]⟩
abbrev S4x256x32x1 : Shape := ⟨4, ![4, 256, 32, 1]⟩
abbrev S4x32x128x256 : Shape := ⟨4, ![4, 32, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4x1024x8x128, .f32⟩
  | .hbm, ⟨3, _⟩ => ⟨S4x1024x8x128, .f32⟩
  | .hbm, ⟨4, _⟩ => ⟨S4096x1024, .f32⟩
  | .hbm, ⟨5, _⟩ => ⟨S4x256x4096, .f32⟩
  | .hbm, ⟨6, _⟩ => ⟨S4x256x32x128, .f32⟩
  | .hbm, ⟨7, _⟩ => ⟨S4x1024x8x4x128, .f32⟩
  | .hbm, ⟨8, _⟩ => ⟨S4x1024x32x128, .f32⟩
  | .hbm, ⟨9, _⟩ => ⟨S4x1024x8x4x128, .f32⟩
  | .hbm, ⟨10, _⟩ => ⟨S4x1024x32x128, .f32⟩
  | .hbm, ⟨11, _⟩ => ⟨S_, .f32⟩
  | .hbm, ⟨12, _⟩ => ⟨S4x256x32x128, .f32⟩
  | .hbm, ⟨13, _⟩ => ⟨S_, .f32⟩
  | .hbm, ⟨14, _⟩ => ⟨S4x32x256x1, .f32⟩
  | .hbm, ⟨15, _⟩ => ⟨S_, .f32⟩
  | .hbm, ⟨16, _⟩ => ⟨S4x32x256x1, .f32⟩
  | .hbm, ⟨17, _⟩ => ⟨S4x32x256x1024, .f32⟩
  | .hbm, ⟨18, _⟩ => ⟨S_, .f32⟩
  | .hbm, ⟨19, _⟩ => ⟨S4x32x256x1024, .f32⟩
  | .hbm, ⟨20, _⟩ => ⟨S4x32x256x1024, .f32⟩
  | .hbm, ⟨21, _⟩ => ⟨S_, .f32⟩
  | .hbm, ⟨22, _⟩ => ⟨S4x32x256, .f32⟩
  | .hbm, ⟨23, _⟩ => ⟨S4x32x256x1, .f32⟩
  | .hbm, ⟨24, _⟩ => ⟨S4x32x256x1, .f32⟩
  | .hbm, ⟨25, _⟩ => ⟨S4x32x256x1, .f32⟩
  | .hbm, ⟨26, _⟩ => ⟨S4x32x256x1, .f32⟩
  | .hbm, ⟨27, _⟩ => ⟨S4x32x256x1024, .f32⟩
  | .hbm, ⟨28, _⟩ => ⟨S4x32x256x1024, .f32⟩
  | .hbm, ⟨29, _⟩ => ⟨S4x32x256x1024, .f32⟩
  | .hbm, ⟨30, _⟩ => ⟨S4x32x256x1, .f32⟩
  | .hbm, ⟨31, _⟩ => ⟨S_, .f32⟩
  | .hbm, ⟨32, _⟩ => ⟨S4x32x256, .f32⟩
  | .hbm, ⟨33, _⟩ => ⟨S4x32x256x1, .f32⟩
  | .hbm, ⟨34, _⟩ => ⟨S4x32x256x1, .f32⟩
  | .hbm, ⟨35, _⟩ => ⟨S4x256x32x1, .f32⟩
  | .hbm, ⟨36, _⟩ => ⟨S4x256x32x128, .f32⟩
  | .hbm, ⟨37, _⟩ => ⟨S4x256x32x128, .f32⟩
  | .hbm, ⟨38, _⟩ => ⟨S4x32x128x256, .f32⟩
  | .hbm, ⟨39, _⟩ => ⟨S4x256x32x128, .f32⟩
  | .hbm, ⟨40, _⟩ => ⟨S4x256x32x128, .f32⟩
  | .hbm, ⟨41, _⟩ => ⟨S4x256x32x1, .f32⟩
  | .hbm, ⟨42, _⟩ => ⟨S4x256x32x128, .f32⟩
  | .hbm, ⟨43, _⟩ => ⟨S4x256x32x128, .f32⟩
  | .hbm, ⟨44, _⟩ => ⟨S4x256x4096, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

/-! # Steps of one core over owned memrefs

What a core holds is stated through `owns c m q X`: core `c` owns the elements a memref names, at a
share, and reads the vector `X` through it.  The rules below take one step of a program over such
facts: a load gives the part of `X` at its rectangle, a store overlays its payload on `X`, a local
copy delivers at its wait, an addressed copy pays a duty of the receiving core's cell. -/

@[expose] public section
set_option maxRecDepth 16384
noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The algebra of the barrier's and the addressed copies' rounds. -/
abbrev UB : Type := URounds (GSem nD τ sig) (Fin 3)
/-- The whole user algebra: the pipeline's, the rounds' and the local copies' counters. -/
abbrev UU : Type := UR sig nD τ × (UB × Counters)

local notation "𝕄" => MT nD τ sig Unit (Elt F) ℕ UU ℕ

/-- The pipeline's embedding. -/
abbrev EP : Emb (UR sig nD τ) (MT nD τ sig Unit (Elt F) ℕ UU ℕ) := embL
/-- The rounds' embedding. -/
abbrev ER : Emb UB (MT nD τ sig Unit (Elt F) ℕ UU ℕ) := (Emb.inl : Emb UB (UB × Counters)).trans embR
/-- The counters' embedding. -/
abbrev EC : UEmb Counters (MT nD τ sig Unit (Elt F) ℕ UU ℕ) := countersEmb

abbrev 𝒱₀ : Variants := Variants.none

section Steps

variable (c : Dev nD) {s : Shape} {e : EltTy} {α : Type} {Q : α → sProp (MT nD τ sig Unit (Elt F) ℕ UU ℕ)}

/-- A load through a rectangle of an owned memref gives its contents there. -/
theorem ld {cs : CoreSpace} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wp frame (wpE (defs₀ (F := F)) 𝒱₀ (c : Thread nD τ) none) Set.univ (k (fun j => X (r.emb j))) Q)
        -∗ wp frame (wpE (defs₀ (F := F)) 𝒱₀ (c : Thread nD τ) none) Set.univ (.op (.load m r.toLoadRect hl) k) Q) := by
  unfold owns
  iintro ⟨%f, %hf, H⟩ Hk
  subst hf
  iapply (wp_load 𝒱₀ (c : Thread nD τ) none Set.univ (m := m) (r := r.toLoadRect) (m.view.setOn_subset_set _)) $$ H
  iintro H
  iapply Hk
  iexists f
  isplitr; · ipureintro; rfl
  iexact H

/-- A load inside an owned slice: `g` places the loaded rectangle's indices in the slice's. -/
theorem ld_in {cs : CoreSpace} {m : Memref sig .tc cs s e} {r r' : Rect s} {hr : ∀ a, r.stride a = 1} {hl : m.view.LoadsAt r'.toLoadRect}
    {k : (r'.shape.Idx → Elt F e) → Prog (TpuEff nD τ sig (Elt F) Λ₀ .tc) α} {q : PosShare TreeShare} {X : r.shape.Idx → Elt F e}
    (g : r'.shape.Idx → r.shape.Idx) (hg : ∀ j, r'.emb j = r.emb (g j)) :
    (owns (c : Thread nD τ) (m.slice r hr) q X : sProp 𝕄)
      ⊢ iprop((owns (c : Thread nD τ) (m.slice r hr) q X -∗ wp frame (wpE (defs₀ (F := F)) 𝒱₀ (c : Thread nD τ) none) Set.univ (k (fun j => X (g j))) Q)
        -∗ wp frame (wpE (defs₀ (F := F)) 𝒱₀ (c : Thread nD τ) none) Set.univ (.op (.load m r'.toLoadRect hl) k) Q) := by
  unfold owns
  iintro ⟨%f, %hf, H⟩ Hk
  subst hf
  have hsub : m.view.setOn r'.toLoadRect.set ⊆ (m.slice r hr).view.set := by
    show (m.view.setOn r'.set) ⊆ (m.view.slice r).set
    rw [View.set_slice]
    refine Finset.map_subset_map.mpr fun i hi => ?_
    obtain ⟨j, rfl⟩ := r'.exists_idx_of_mem hi
    rw [show r'.idx j = r.emb (g j) from hg j, ← Rect.map_emb_univ]
    exact Finset.mem_map_of_mem _ (Finset.mem_univ _)
  iapply (wp_load 𝒱₀ (c : Thread nD τ) none Set.univ (m := m) (r := r'.toLoadRect) hsub) $$ H
  iintro H
  have hv : m.view.readAt (Elt F) r'.toLoadRect f = fun j => (m.slice r hr).view.read (Elt F) f (g j) := by
    funext j
    show m.view.read (Elt F) f (r'.emb j) = m.view.read (Elt F) f (r.emb (g j))
    rw [hg j]
  rw [hv]
  iapply Hk
  iexists f
  isplitr; · ipureintro; rfl
  iexact H

/-- A load of exactly an owned slice. -/
theorem ld_slice {cs : CoreSpace} {m : Memref sig .tc cs s e} {r : Rect s} {hr : ∀ a, r.stride a = 1} {hl : m.view.LoadsAt r.toLoadRect}
    {k : (r.shape.Idx → Elt F e) → Prog (TpuEff nD τ sig (Elt F) Λ₀ .tc) α} {q : PosShare TreeShare} {X : r.shape.Idx → Elt F e} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (k X) Q)
        -∗ wp frame (wpE (defs₀ (F := F)) 𝒱₀ (c : Thread nD τ) none) Set.univ (.op (.load m r.toLoadRect hl) k) Q) :=
  ld_in c (m := m) (r := r) (r' := r) (fun j => j) (fun _ => rfl)

/-- A store through a rectangle of an owned memref overlays its payload. -/
theorem st {cs : CoreSpace} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare (r.overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  subst hf
  iapply (wp_store 𝒱₀ (c : Thread nD τ) none Set.univ (m := m) (r := r) (w := w) (Mk := Finset.univ) (m.setOn_access_subset r _)) $$ H
  iintro H
  iapply Hk
  iexists (m.access r).write (Elt F) f w Finset.univ
  isplitr [H]
  · ipureintro
    funext i
    by_cases hi : i ∈ r.set
    · obtain ⟨j, rfl⟩ := r.exists_idx_of_mem hi
      refine Eq.trans ?_ (Rect.overlay_emb r _ _ j).symm
      exact View.read_slice_write_emb r _ w (Finset.mem_univ j)
    · rw [Rect.overlay_of_not_mem _ _ _ hi]
      exact View.read_slice_write_of_not_mem r _ w _ (by rwa [Rect.map_emb_univ])
  · iexact H

/-- A store of exactly an owned slice. -/
theorem st_slice {cs : CoreSpace} {m : Memref sig .tc cs s e} {r : Rect s} {hr : ∀ a, r.stride a = 1} {w : r.shape.Idx → Elt F e}
    {hx : (m.access r).Stores Finset.univ} {hm : Finset.univ = Finset.univ ∨ ∀ a, r.stride a = 1}
    {k : PUnit → Prog (TpuEff nD τ sig (Elt F) Λ₀ .tc) α} {X : r.shape.Idx → Elt F e} :
    (owns (c : Thread nD τ) (m.slice r hr) fullShare X : sProp 𝕄)
      ⊢ iprop((owns (c : Thread nD τ) (m.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (w := w) (Mk := Finset.univ) (f := f)
    (S := (m.slice r hr).view.set) (View.setOn_subset_set _ _)) $$ H
  iintro H
  iapply Hk
  iexists (m.access r).write (Elt F) f w Finset.univ
  isplitr [H]
  · ipureintro; exact View.read_write_univ _ _
  · iexact H

/-- A load whose values are named: `Y` is what the rectangle reads of `X`. -/
theorem ld_as {cs : CoreSpace} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e}
    (Y : r.shape.Idx → Elt F e) (hY : ∀ j, X (r.emb j) = Y j) :
    (owns (c : Thread nD τ) m q X : sProp 𝕄)
      ⊢ iprop((owns (c : Thread nD τ) m q X -∗ wp frame (wpE (defs₀ (F := F)) 𝒱₀ (c : Thread nD τ) none) Set.univ (k Y) Q) -∗ wp frame (wpE (defs₀ (F := F)) 𝒱₀ (c : Thread nD τ) none) Set.univ (.op (.load m r.toLoadRect hl) k) Q) := by
  obtain rfl : (fun j => X (r.emb j)) = Y := funext hY
  exact ld c

/-- A load of a slice at an offset equal to the owned slice's. -/
theorem ld_at {cs : CoreSpace} {m : Memref sig .tc cs s e} {off off' size : Fin s.rank → ℕ} {h : ∀ a, off a + size a ≤ s.size a}
    {h' : ∀ a, off' a + size a ≤ s.size a} {hr : ∀ a, (Rect.unit (s := s) off size h).stride a = 1}
    {hl : m.view.LoadsAt (Rect.unit (s := s) off' size h').toLoadRect} {k : ((⟨s.rank, size⟩ : Shape).Idx → Elt F e) → Prog (TpuEff nD τ sig (Elt F) Λ₀ .tc) α}
    {q : PosShare TreeShare} {X : (⟨s.rank, size⟩ : Shape).Idx → Elt F e} (ho : off' = off) :
    (owns (c : Thread nD τ) (m.slice (Rect.unit (s := s) off size h) hr) q X : sProp 𝕄)
      ⊢ iprop((owns (c : Thread nD τ) (m.slice (Rect.unit (s := s) off size h) hr) q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := s) off' size h').toLoadRect hl) k) Q) := by
  subst ho
  exact ld_slice c (m := m) (r := Rect.unit (s := s) off' size h')

/-- A store whose result is named: `Y` holds the payload on the rectangle and `X` off it. -/
theorem st_as {cs : CoreSpace} {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e}
    (Y : s.Idx → Elt F e) (h₁ : ∀ j, Y (r.emb j) = w j) (h₂ : ∀ i, i ∉ r.set → Y i = X i) :
    (owns (c : Thread nD τ) m fullShare X : sProp 𝕄)
      ⊢ iprop((owns (c : Thread nD τ) m fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  have hY : r.overlay X w = Y := funext fun i => by
    by_cases hi : i ∈ r.set
    · obtain ⟨j, rfl⟩ := r.exists_idx_of_mem hi
      exact (Rect.overlay_emb r _ _ j).trans (h₁ j).symm
    · rw [Rect.overlay_of_not_mem _ _ _ hi, h₂ i hi]
  rw [← hY]
  exact st c

/-- A store inside an owned slice, its result named: `g` places the stored rectangle's indices in the slice's. -/
theorem st_in {cs : CoreSpace} {m : Memref sig .tc cs s e} {r r' : Rect s} {hr : ∀ a, r.stride a = 1} {w : r'.shape.Idx → Elt F e}
    {hx : (m.access r').Stores Finset.univ} {hm : Finset.univ = Finset.univ ∨ ∀ a, r'.stride a = 1}
    {k : PUnit → Prog (TpuEff nD τ sig (Elt F) Λ₀ .tc) α} {X : r.shape.Idx → Elt F e}
    (g : r'.shape.Idx → r.shape.Idx) (hg : ∀ j, r'.emb j = r.emb (g j))
    (Y : r.shape.Idx → Elt F e) (h₁ : ∀ j, Y (g j) = w j) (h₂ : ∀ i, (∀ j, g j ≠ i) → Y i = X i) :
    (owns (c : Thread nD τ) (m.slice r hr) fullShare X : sProp 𝕄)
      ⊢ iprop((owns (c : Thread nD τ) (m.slice r hr) fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r' w Finset.univ hx hm) k) Q) := by
  unfold owns
  iintro ⟨%f, %hf, H⟩ Hk
  have hsub : (m.access r').setOn Finset.univ ⊆ (m.slice r hr).view.set := by
    show (m.view.slice r').set ⊆ (m.view.slice r).set
    rw [View.set_slice, View.set_slice]
    refine Finset.map_subset_map.mpr fun i hi => ?_
    obtain ⟨j, rfl⟩ := r'.exists_idx_of_mem hi
    rw [show r'.idx j = r.emb (g j) from hg j, ← Rect.map_emb_univ]
    exact Finset.mem_map_of_mem _ (Finset.mem_univ _)
  iapply (wp_store 𝒱₀ (c : Thread nD τ) none Set.univ (m := m) (r := r') (w := w) (Mk := Finset.univ) (f := f)
    (S := (m.slice r hr).view.set) hsub) $$ H
  iintro H
  iapply Hk
  iexists (m.access r').write (Elt F) f w Finset.univ
  isplitr [H]
  · ipureintro
    funext i
    show m.view.read (Elt F) _ (r.emb i) = Y i
    by_cases hi : ∃ j, g j = i
    · obtain ⟨j, rfl⟩ := hi
      rw [← hg j, h₁ j]
      exact View.read_slice_write_emb r' _ w (Finset.mem_univ j)
    · rw [h₂ i (not_exists.mp hi), ← hf]
      refine View.read_slice_write_of_not_mem r' _ w _ fun hmem => hi ?_
      obtain ⟨j, -, hj⟩ := Finset.mem_map.mp hmem
      exact ⟨j, r.emb.injective ((hg j).symm.trans hj)⟩
  · iexact H

/-- A squeezed memref is owned at the re-indexed contents. -/
theorem owns_squeeze {sp : Space} {s' : Shape} (m : Memref sig .tc sp s e) (h : s.Squeezes s') (q : PosShare TreeShare) (X : s.Idx → Elt F e) :
    (owns (c : Thread nD τ) (m.squeeze s' h) q (fun j => X (Shape.reshapeEquiv h.numel_eq j)) : sProp 𝕄) = owns (c : Thread nD τ) m q X := by
  have hr (f : m.view.ty.Contents (Elt F)) :
      ((m.squeeze s' h).view.read (Elt F) f = fun j => X (Shape.reshapeEquiv h.numel_eq j)) ↔ m.view.read (Elt F) f = X := by
    constructor
    · intro hh; funext i
      have := congrFun hh ((Shape.reshapeEquiv h.numel_eq).symm i)
      rw [Equiv.apply_symm_apply] at this
      rw [← this]
      show m.view.read (Elt F) f i = m.view.read (Elt F) f (Shape.reshapeEquiv h.numel_eq ((Shape.reshapeEquiv h.numel_eq).symm i))
      rw [Equiv.apply_symm_apply]
    · intro hh; funext i
      rw [← hh]; rfl
  have hset : (m.squeeze s' h).view.set = m.view.set := View.set_reshape _ _
  have h₁ : (owns (c : Thread nD τ) (m.squeeze s' h) q (fun j => X (Shape.reshapeEquiv h.numel_eq j)) : sProp 𝕄) ⊢ owns (c : Thread nD τ) m q X := by
    unfold owns
    iintro ⟨%f, %hf, H⟩
    iexists f
    isplitr; · ipureintro; exact (hr f).mp hf
    rw [← hset]; iexact H
  have h₂ : (owns (c : Thread nD τ) m q X : sProp 𝕄) ⊢ owns (c : Thread nD τ) (m.squeeze s' h) q (fun j => X (Shape.reshapeEquiv h.numel_eq j)) := by
    unfold owns
    iintro ⟨%f, %hf, H⟩
    iexists f
    isplitr; · ipureintro; exact (hr f).mpr hf
    rw [hset]; iexact H
  exact BI.equiv_iff.mp ⟨h₁, h₂⟩

/-- A local copy between squeezed memrefs, from an owned source onto an owned destination: in flight until its wait,
    which delivers the destination at the source's contents re-indexed (the source's share is given up).  The issued
    memrefs and semaphore are the owned ones' up to an equation. -/
theorem dma {sp sp' : Space} {s₁ s₂ : Shape} {src src' : Memref sig .tc sp s₁ e} {dst dst' : Memref sig .tc sp' s₂ e} {h₁ : s₁.Squeezes s} {h₂ : s₂.Squeezes s}
    {sm sm' : DmaSem sig}
    {hsrc : (src'.squeeze s h₁).view.WordExact} {hdst : (dst'.squeeze s h₂).view.WordExact}
    {hsem : DmaTarget.Typed (nD := nD) (p := (Proc.tc : Proc τ)) sp (.dma sm') (.here (dst'.squeeze s h₂))}
    {k : PUnit → Prog (TpuEff nD τ sig (Elt F) Λ₀ .tc) α} {q : PosShare TreeShare} {X : s₁.Idx → Elt F e}
    (hs : src' = src) (hd : dst' = dst) (hsm : sm' = sm) (Y : s₂.Idx → Elt F e)
    (hY : ∀ j, Y (Shape.reshapeEquiv h₂.numel_eq j) = X (Shape.reshapeEquiv h₁.numel_eq j))
    (N : ℕ) (hN : (dst.squeeze s h₂).view.dmaCredit = N) (hN0 : 0 < N) :
    iprop(owns (c : Thread nD τ) src q X ∗ (∃ Z, owns (c : Thread nD τ) dst fullShare Z) ∗ semVal ((c : Thread nD τ), .dma sm) 0)
      ⊢ iprop(((Flight EC (c : Thread nD τ) (.dma sm) () N (owns (c : Thread nD τ) dst fullShare Y) : sProp 𝕄) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (src'.squeeze s h₁) (.here (dst'.squeeze s h₂)) (.dma sm') hsrc hdst hsem) k) Q) := by
  subst hs hd hsm
  have e₁ : (owns (c : Thread nD τ) src' q X : sProp 𝕄) = owns (c : Thread nD τ) (src'.squeeze s h₁) q (fun j => X (Shape.reshapeEquiv h₁.numel_eq j)) :=
    (owns_squeeze c src' h₁ q X).symm
  have e₂ (Z) : (owns (c : Thread nD τ) dst' fullShare Z : sProp 𝕄) = owns (c : Thread nD τ) (dst'.squeeze s h₂) fullShare (fun j => Z (Shape.reshapeEquiv h₂.numel_eq j)) :=
    (owns_squeeze c dst' h₂ fullShare Z).symm
  rw [e₁]
  simp only [e₂]
  unfold owns
  iintro ⟨⟨%f, %hf, Hs⟩, ⟨%Z, %g, -, Hd⟩, Hv⟩ Hk
  iapply (wp_dmaLocal EC 𝒱₀ (c : Thread nD τ) none () N (show (dst'.squeeze s h₂).view.amount (.dma sm') = N from hN) hN0 (subset_refl _)) $$ [Hs Hd Hv]
  · isplitl [Hs]; · iexact Hs
    isplitl [Hd] <;> iassumption
  iintro Hf
  iapply Hk
  iapply (Flight_mono EC (c : Thread nD τ) (D' := iprop(∃ f, ⌜(dst'.squeeze s h₂).view.read (Elt F) f = fun j => Y (Shape.reshapeEquiv h₂.numel_eq j)⌝
    ∗ ((dst'.squeeze s h₂).view.loc (c : Thread nD τ) ↦[(dst'.squeeze s h₂).view.set]{fullShare} f))) ?_) $$ Hf
  iintro ⟨H, -⟩
  iexists (dst'.squeeze s h₂).view.write (Elt F) g ((src'.squeeze s h₁).view.read (Elt F) f) Finset.univ
  isplitr [H]
  · ipureintro
    rw [View.read_write_univ, hf]; exact funext fun j => (hY j).symm
  · iexact H

/-- The wait of a local copy, by a core that may wait at that level: the delivery, and the counter back at zero. -/
theorem dma_wait {sp sp' : Space} {srcw : Memref sig .tc sp s e} {s' : Shape} {e' : EltTy} {dstw : Memref sig .tc sp' s' e'} {sm sm' : DmaSem sig}
    {hsrc : srcw.view.WordExact} {hdst : dstw.view.WordExact}
    {k : PUnit → Prog (TpuEff nD τ sig (Elt F) Λ₀ .tc) α} {N : ℕ} (hsm : sm' = sm) (hN : dstw.view.dmaCredit = N) {D : sProp 𝕄}
    {O : CellTallies nD τ sig Unit} :
    iprop(Flight EC (c : Thread nD τ) (.dma sm) () N D ∗ (∃ W, owes (c : Thread nD τ) O W) ∗ MayWait (c : Thread nD τ) (.dma sm) () O)
      ⊢ iprop((iprop(D ∗ semVal ((c : Thread nD τ), .dma sm) 0 ∗ (∃ W, owes (c : Thread nD τ) O W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm' srcw dstw hsrc hdst) k) Q) := by
  subst hsm
  iintro ⟨Hf, ⟨%W, HO⟩, Hm⟩ Hk
  iapply (wp_waitLocalO EC 𝒱₀ (c : Thread nD τ) none () hN) $$ [Hf HO Hm]
  · isplitl [Hf]; · iexact Hf
    isplitl [HO] <;> iassumption
  iintro ⟨HD, Hv, HO⟩
  iapply Hk
  isplitl [HD]; · iexact HD
  isplitl [Hv]; · iexact Hv
  iexists _; iexact HO

variable (Rd : Rounds.Schedule (GSem nD τ sig) (Fin 3) (MT nD τ sig Unit (Elt F) ℕ UU ℕ))
  [∀ g r d, BI.Storable (upEmb : UEmb _ (MT nD τ sig Unit (Elt F) ℕ UU ℕ)) (Rd.payload g r d)]

/-- An addressed copy between squeezed memrefs, paying duty `0` of its send cell and of the receiver's cell in round 0. -/
theorem send {sp sp' : Space} {s₁ : Shape} (d d' : Dev nD) {src src' : Memref sig .tc sp s₁ e} {dst dst' : Memref sig .tc sp' s₁ e} {h₁ : s₁.Squeezes s} {h₂ : s₁.Squeezes s}
    {sS sS' sR sR' : DmaSem sig} {hsc : ((dst'.squeeze s h₂ : Memref sig (Dev.tc d' : Thread nD τ).2.kind sp' s e)).view.ref.isScScratch = false}
    {hsrc : (src'.squeeze s h₁).view.WordExact} {hdst : (dst'.squeeze s h₂).view.WordExact}
    {hsem : DmaTarget.Typed sp (.dma sR') (.remote (Dev.tc d' : Thread nD τ) (dst'.squeeze s h₂) (.dma sS') hsc)}
    {k : PUnit → Prog (TpuEff nD τ sig (Elt F) Λ₀ .tc) α} {q : PosShare TreeShare} {X : s₁.Idx → Elt F e}
    (hdd : d' = d) (hs : src' = src) (hd : dst' = dst) (hS : sS' = sS) (hR : sR' = sR)
    {κ₁ κ₂ N : ℕ} (hd₁ : (0 : Fin 3) ∈ Rd.duties ((c : Thread nD τ), .dma sS) 0) (hd₂ : (0 : Fin 3) ∈ Rd.duties ((d : Thread nD τ), .dma sR) 0)
    (hN : (dst.squeeze s h₂).view.dmaCredit = N)
    (hk₁ : Rd.amount ((c : Thread nD τ), .dma sS) 0 0 = N) (hk₂ : Rd.amount ((d : Thread nD τ), .dma sR) 0 0 = N)
    (O : CellTallies nD τ sig Unit) {O₀ : CellTallies nD τ sig Unit} (hO : O₀ = O + tallyAt ((d : Thread nD τ), .dma sR) () N)
    (hpay₁ : owns (c : Thread nD τ) src q X ⊢ Rd.payload ((c : Thread nD τ), .dma sS) 0 0)
    (hpay₂ : owns (d : Thread nD τ) dst fullShare X ⊢ Rd.payload ((d : Thread nD τ), .dma sR) 0 0) :
    iprop(cellInv ER Rd κ₁ ((c : Thread nD τ), .dma sS) ∗ cellInv ER Rd κ₂ ((d : Thread nD τ), .dma sR)
        ∗ owns (c : Thread nD τ) src q X ∗ (∃ Z, owns (d : Thread nD τ) dst fullShare Z) ∗ (∃ W, owes (c : Thread nD τ) O₀ W)
        ∗ dutyTok ER ((c : Thread nD τ), .dma sS) 0 0 ∗ reached ER ((c : Thread nD τ), .dma sS) 0
        ∗ dutyTok ER ((d : Thread nD τ), .dma sR) 0 0 ∗ reached ER ((d : Thread nD τ), .dma sR) 0)
      ⊢ iprop((iprop(cred (tallyAt ((c : Thread nD τ), .dma sS) () N) ∗ (∃ W, owes (c : Thread nD τ) O W)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (src'.squeeze s h₁) (.remote (Dev.tc d' : Thread nD τ) (dst'.squeeze s h₂) (.dma sS') hsc) (.dma sR') hsrc hdst hsem) k) Q) := by
  subst hdd hs hd hS hR
  have e₁ : (owns (c : Thread nD τ) src' q X : sProp 𝕄) = owns (c : Thread nD τ) (src'.squeeze s h₁) q (fun j => X (Shape.reshapeEquiv h₁.numel_eq j)) :=
    (owns_squeeze c src' h₁ q X).symm
  have e₂ (Z) : (owns (d' : Thread nD τ) dst' fullShare Z : sProp 𝕄) = owns (d' : Thread nD τ) (dst'.squeeze s h₂) fullShare (fun j => Z (Shape.reshapeEquiv h₂.numel_eq j)) :=
    (owns_squeeze d' dst' h₂ fullShare Z).symm
  rw [e₁] at hpay₁
  rw [e₂] at hpay₂
  rw [e₁]
  simp only [e₂]
  have hp₁ (f) (hf : (src'.squeeze s h₁).view.read (Elt F) f = fun j => X (Shape.reshapeEquiv h₁.numel_eq j)) :=
    BI.Entails.trans (owns_intro (Val := Elt F) (c : Thread nD τ) (src'.squeeze s h₁) q f) (by rw [hf]; exact hpay₁)
  have hp₂ (g f) (hf : (src'.squeeze s h₁).view.read (Elt F) f = fun j => X (Shape.reshapeEquiv h₁.numel_eq j)) :=
    BI.Entails.trans (owns_intro (Val := Elt F) (d' : Thread nD τ) (dst'.squeeze s h₂) fullShare
      ((dst'.squeeze s h₂).view.write (Elt F) g ((src'.squeeze s h₁).view.read (Elt F) f) Finset.univ))
      (by rw [View.read_write_univ, hf]; exact hpay₂)
  unfold owns
  iintro ⟨#H1, #H2, ⟨%f, %hf, Hs⟩, ⟨%Z, %g, -, Hd⟩, ⟨%W, HO⟩, Ht1, #Hr1, Ht2, #Hr2⟩ Hk
  iapply (Rounds.wp_send_pointsTo 𝒱₀ ER Rd (c : Thread nD τ) none (c' := (Dev.tc d' : Thread nD τ)) (κ₁ := κ₁) (κ₂ := κ₂) (src := src'.squeeze s h₁) (dst := dst'.squeeze s h₂) (fs := f) (fd := g)
    (r₁ := 0) (r₂ := 0) (d₁ := 0) (d₂ := 0) hd₁ hd₂ () () N hN hk₁ hk₂ O hO (W := W)
    (hp₁ f hf) (hp₂ g f hf)) $$ [Hs Hd HO Ht1 Ht2]
  · isplitr; · iexact H1
    isplitr; · iexact H2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- The wait for the one round of a copy's cell: its payload, and the counter back at zero, the cell closed. -/
theorem cell_wait {sp sp' : Space} {srcw : Memref sig .tc sp s e} {s' : Shape} {e' : EltTy} {dstw : Memref sig .tc sp' s' e'} {sm sm' : DmaSem sig}
    {hsrc : srcw.view.WordExact} {hdst : dstw.view.WordExact}
    {k : PUnit → Prog (TpuEff nD τ sig (Elt F) Λ₀ .tc) α} {κ N : ℕ} (hsm : sm' = sm) (hN : dstw.view.dmaCredit = N)
    (hdu : Rd.duties ((c : Thread nD τ), .dma sm) 0 = {0}) (hk : Rd.amount ((c : Thread nD τ), .dma sm) 0 0 = N)
    (hlate : ∀ r, 1 ≤ r → Rd.duties ((c : Thread nD τ), .dma sm) r = ∅) (hu : ¬ Rd.unitless ((c : Thread nD τ), .dma sm))
    {O : CellTallies nD τ sig Unit} :
    iprop(cellInv ER Rd κ ((c : Thread nD τ), .dma sm) ∗ cred (tallyAt ((c : Thread nD τ), .dma sm) () N) ∗ (∃ W, owes (c : Thread nD τ) O W)
        ∗ MayWait (c : Thread nD τ) (.dma sm) () O ∗ atPos ER ((c : Thread nD τ), .dma sm) 0 ∅ 0)
      ⊢ iprop((iprop(Rd.payload ((c : Thread nD τ), .dma sm) 0 0 ∗ semVal ((c : Thread nD τ), .dma sm) 0 ∗ (∃ W, owes (c : Thread nD τ) O W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm' srcw dstw hsrc hdst) k) Q) := by
  subst hsm hN
  have hex : Rd.expect ((c : Thread nD τ), .dma sm') 0 = dstw.view.dmaCredit := by
    unfold Schedule.expect Schedule.amountOf; rw [hdu, Finset.sum_singleton, hk]
  have hrest : bigSep (Rd.duties ((c : Thread nD τ), .dma sm') 0 \ ∅) (fun d => Rd.payload ((c : Thread nD τ), .dma sm') 0 d)
      = Rd.payload ((c : Thread nD τ), .dma sm') 0 0 := by
    rw [Finset.sdiff_empty, hdu, bigSep_singleton]
  iintro ⟨#HI, Hc, ⟨%W, HO⟩, Hm, Hat⟩ Hk
  iapply (Rounds.wp_wait_rest_token 𝒱₀ ER Rd (c : Thread nD τ) none (κ := κ)
      (wpE_waitDma2_eq 𝒱₀ (c : Thread nD τ) none Set.univ) (Set.mem_univ _) () (O := O) (W := W) (R := 0) (m := 0) (T := ∅)
      (by rw [Nat.zero_add, hex])) $$ [Hc HO Hm Hat]
  · isplitr; · iexact HI
    isplitl [Hc]; · iexact Hc
    isplitl [HO]; · iexact HO
    isplitl [Hm] <;> iassumption
  iintro ⟨HO, Hat, -, Hpay⟩
  ihave Hp := (Entails.of_eq hrest) $$ Hpay
  imod (Rounds.cell_close ER Rd (Set.mem_univ κ) hu (R := 0 + 1) hlate) $$ [Hat] with Hz
  · isplitr; · iexact HI
    iexact Hat
  iapply Hk
  isplitl [Hp]; · iexact Hp
  isplitl [Hz]; · iexact Hz
  iexists _; iexact HO

end Steps

end Cert.KernelIdeal.Pf
end
-- ==== Proof.Contents.lean ====
module

public import proofs.«01_k».proof.Proof.Base
public import Idealize.ShloMosaic.Lib.ValueIdxCore

/-! # What the kernel computes, as functions of the devices' arguments

Every function here is written with the payload functions of the kernel's own stores.  Device `c`
works on the batch blocks `c`, `c - 1`, `c - 2`, `c + 1` in this order; the first three of its
partial products travel around the ring, each hop adding the next device's, and the block `c + 1`,
summed over the four devices, ends on `c`. -/

@[expose] public section
set_option maxRecDepth 16384
noncomputable section

namespace Cert.KernelIdeal.Pf

open Cert.KernelIdeal Cert.KernelIdeal.Gen
open Idealize.ShloMosaic Idealize.ShloMosaic.ValueIdx

variable {F : FTy → Type} [FloatOps F]

/-! ## Devices -/

set_option backward.proofsInPublic true in
/-- The device `n` places to the right of `c`. -/
def sh (n : ℕ) (c : Dev nD) : Dev nD := ⟨(c.val + n) % 4, Nat.mod_lt _ (by decide)⟩

/-- Head `r` of the two heads device `c` works on. -/
def hd (c : Dev nD) (r : Fin 2) : Fin 8 := ⟨2 * c.val + r.val, by have h : c.val < 4 := c.isLt; have := r.isLt; omega⟩

/-! ## The arguments of one device -/

/-- The five arguments as device `c` holds them. -/
structure Ins (F : FTy → Type) [FloatOps F] where
  x : Vec F S4x256x1024 .f32
  wq : Vec F S1024x1024 .f32
  wo : Vec F S1024x1024 .f32
  kk : Vec F S4x1024x8x128 .f32
  vv : Vec F S4x1024x8x128 .f32

/-- One head of one batch block, as a slot of a scratch buffer holds it. -/
def headOf (A : Vec F S4x1024x8x128 .f32) (b : Fin 4) (h : Fin 8) : Vec F S1x1024x128 .f32 :=
  fun j => A (ix4 b (j 1) h (j 2))

/-- A slot of the widened values: the head rounded in the left half, the right half's first column ones. -/
def vslot (A : Vec F S1x1024x128 .f32) : Vec F S1x1024x256 .bf16 := fun j =>
  if h : (j 2).val < 128 then k0_pay13 A (ix3 0 (j 1) ⟨(j 2).val, h⟩)
  else k0_pay7 (k0_pay6 (F := F)) (ix3 0 (j 1) ⟨(j 2).val - 128, by have : (j 2).val < 256 := (j 2).isLt; omega⟩)

/-- The rows of batch block `b`. -/
def rows (X : Vec F S1024x1024 .bf16) (b : Fin 4) : Vec F S256x1024 .bf16 := fun j =>
  X (ix2 ⟨256 * b.val + (j 0).val, by have : (j 0).val < 256 := (j 0).isLt; omega⟩ (j 1))

/-- Half `h` of the rows of batch block `b`. -/
def rowsH (X : Vec F S1024x1024 .bf16) (b : Fin 4) (h : Fin 2) : Vec F S128x1024 .bf16 := fun j =>
  X (ix2 ⟨256 * b.val + 128 * h.val + (j 0).val, by have : (j 0).val < 128 := (j 0).isLt; omega⟩ (j 1))

/-- The columns of the first head group, or of the second. -/
def colsL {n : ℕ} {e : EltTy} (X : Vec F ⟨2, ![n, 1024]⟩ e) : Vec F ⟨2, ![n, 512]⟩ e := fun j =>
  X (ix2 (j 0) ⟨(j 1).val, by have : (j 1).val < 512 := (j 1).isLt; omega⟩)
def colsR {n : ℕ} {e : EltTy} (X : Vec F ⟨2, ![n, 1024]⟩ e) : Vec F ⟨2, ![n, 512]⟩ e := fun j =>
  X (ix2 (j 0) ⟨512 + (j 1).val, by have : (j 1).val < 512 := (j 1).isLt; omega⟩)

/-- Two groups of columns side by side. -/
def cat {n : ℕ} {e : EltTy} (A B : Vec F ⟨2, ![n, 512]⟩ e) : Vec F ⟨2, ![n, 1024]⟩ e := fun j =>
  if h : (j 1).val < 512 then A (ix2 (j 0) ⟨(j 1).val, h⟩)
  else B (ix2 (j 0) ⟨(j 1).val - 512, by have : (j 1).val < 1024 := (j 1).isLt; omega⟩)

/-- Half `h` of the rows of a slot. -/
def slotH {e : EltTy} (X : Vec F S1x256x1024 e) (h : Fin 2) : Vec F S1x128x1024 e := fun j =>
  X (ix3 0 ⟨128 * h.val + (j 1).val, by have : (j 1).val < 128 := (j 1).isLt; omega⟩ (j 2))

/-- Two halves of the rows of a slot, one above the other. -/
def slotOf {e : EltTy} (X : Fin 2 → Vec F S1x128x1024 e) : Vec F S1x256x1024 e := fun j =>
  X ⟨(j 1).val / 128, by have : (j 1).val < 256 := (j 1).isLt; omega⟩ (ix3 0 ⟨(j 1).val % 128, Nat.mod_lt _ (by decide)⟩ (j 2))

/-! ## One device's products -/

section One
variable (A : Ins F) (c : Dev nD)

/-- Keys and widened values of head `r` of device `c`, batch block `b`. -/
def kb (b : Fin 4) (r : Fin 2) : Vec F S1x1024x128 .bf16 := k0_pay12 (headOf A.kk b (hd c r))
def vb (b : Fin 4) (r : Fin 2) : Vec F S1x1024x256 .bf16 := vslot (headOf A.vv b (hd c r))

/-- The attention of batch block `b`, both head groups of device `c`. -/
def attnB (b : Fin 4) : Vec F S256x1024 .bf16 :=
  cat (k0_pay17 (colsL (k0_pay14 (rows (k0_pay3 A.x) b) (k0_pay4 A.wq))) (kb A c b 0) (vb A c b 0))
    (k0_pay17 (colsR (k0_pay14 (rows (k0_pay3 A.x) b) (k0_pay4 A.wq))) (kb A c b 1) (vb A c b 1))

/-- Device `c`'s partial product of batch block `b`. -/
def part (b : Fin 4) : Vec F S256x1024 .f32 := k0_pay18 (attnB A c b) (k0_pay5 A.wo)

/-- The same for half `h` of the rows of the block. -/
def attnH (b : Fin 4) (h : Fin 2) : Vec F S128x1024 .bf16 :=
  cat (k0_pay48 (colsL (k0_pay45 (rowsH (k0_pay3 A.x) b h) (k0_pay4 A.wq))) (kb A c b 0) (vb A c b 0))
    (k0_pay48 (colsR (k0_pay45 (rowsH (k0_pay3 A.x) b h) (k0_pay4 A.wq))) (kb A c b 1) (vb A c b 1))
def partH (b : Fin 4) (h : Fin 2) : Vec F S128x1024 .f32 := k0_pay49 (attnH A c b h) (k0_pay5 A.wo)

end One

/-! ## Around the ring -/

section Ring
variable (I : Dev nD → Ins F)

/-- What device `c` sends on hop `0`, `1`, `2`. -/
def RS0 (c : Dev nD) : Vec F S1x256x1024 .bf16 := k0_pay19 (part (I c) c c)
def RS1 (c : Dev nD) : Vec F S1x256x1024 .bf16 := k0_pay29 (part (I c) c (sh 3 c)) (RS0 I (sh 3 c))
def RS2 (c : Dev nD) : Vec F S1x256x1024 .bf16 := k0_pay29 (part (I c) c (sh 2 c)) (RS1 I (sh 3 c))
def RS (i : Fin 3) (c : Dev nD) : Vec F S1x256x1024 .bf16 := match i with | 0 => RS0 I c | 1 => RS1 I c | 2 => RS2 I c

/-- Half `h` of the block whose sum ends on `c`, and what of it is sent to the other devices. -/
def fin (c : Dev nD) (h : Fin 2) : Vec F S128x1024 .f32 := k0_pay50 (partH (I c) c (sh 1 c) h) (slotH (RS2 I (sh 3 c)) h)
def AG (c : Dev nD) (h : Fin 2) : Vec F S1x128x1024 .bf16 := k0_pay51 (partH (I c) c (sh 1 c) h) (slotH (RS2 I (sh 3 c)) h)

/-- The rows of block `b` of the result on device `c`: computed there for `b = c + 1`, received for the others. -/
def outRows (c : Dev nD) (b : Fin 4) : Vec F S256x1024 .f32 :=
  if b = sh 1 c then fun j => fin I c ⟨(j 0).val / 128, by have : (j 0).val < 256 := (j 0).isLt; omega⟩
    (ix2 ⟨(j 0).val % 128, Nat.mod_lt _ (by decide)⟩ (j 1))
  else k0_pay60 (slotOf (AG I (sh 3 b)))

/-- The result on device `c`. -/
def OUT (c : Dev nD) : Vec F S1024x1024 .f32 := fun j =>
  outRows I c ⟨(j 0).val / 256, by have : (j 0).val < 1024 := (j 0).isLt; omega⟩ (ix2 ⟨(j 0).val % 256, Nat.mod_lt _ (by decide)⟩ (j 1))

end Ring

end Cert.KernelIdeal.Pf
-- ==== Proof.Proto.lean ====
module

public import proofs.«01_k».proof.Proof.Contents

/-! # The protocol between the devices

Nine addressed copies leave every device: hops `0`, `1`, `2` of the ring go to the device on the right, and both halves
of a finished block go to the right, the left and the opposite device.  Every copy has a send cell on the issuing device
and a receive cell on the receiving one, a single round each.  Before the first copy, every device signals the barrier
semaphore of the other three: the signal hands the places the receiver of the signal will copy to. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices -/

theorem sh_sh (n k : ℕ) (c : Dev nD) : sh n (sh k c) = sh (k + n) c := Fin.ext (by
  show ((c.val + k) % 4 + n) % 4 = (c.val + (k + n)) % 4
  omega)
theorem sh_four (c : Dev nD) : sh 4 c = c := Fin.ext (by
  have h : c.val < 4 := c.isLt
  show (c.val + 4) % 4 = c.val
  omega)
theorem sh_zero (c : Dev nD) : sh 0 c = c := Fin.ext (by
  have h : c.val < 4 := c.isLt
  show (c.val + 0) % 4 = c.val
  omega)
theorem sh13 (c : Dev nD) : sh 1 (sh 3 c) = c := (sh_sh 1 3 c).trans (sh_four c)
theorem sh31 (c : Dev nD) : sh 3 (sh 1 c) = c := (sh_sh 3 1 c).trans (sh_four c)
theorem sh22 (c : Dev nD) : sh 2 (sh 2 c) = c := (sh_sh 2 2 c).trans (sh_four c)

/-- Going `n` places and `4 - n` places around the ring are inverse to each other. -/
def turn (n : Fin 4) : Dev nD ≃ Dev nD where
  toFun := sh n.val
  invFun := sh (4 - n.val)
  left_inv c := by rw [sh_sh, show n.val + (4 - n.val) = 4 by omega, sh_four]
  right_inv c := by rw [sh_sh, show 4 - n.val + n.val = 4 by omega, sh_four]

theorem dev1_eq (c : Dev nD) : (⟨k0_dev1 c, k0_dev1_lt c⟩ : Dev nD) = sh 3 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)

/-! ## The copies -/

/-- How far to the right copy `t` goes; copies 0, 1, 2 are the ring's hops, copy `3 + 3h + j` takes half `h` of the
    finished block to the right, the left and the opposite device. -/
abbrev far : Fin 9 → Fin 4 := ![1, 1, 1, 1, 3, 2, 1, 3, 2]
/-- The device copy `t` of device `c` goes to, and the one copy `t` onto `c` comes from. -/
abbrev dst (t : Fin 9) (c : Dev nD) : Dev nD := turn (far t) c
abbrev from_ (t : Fin 9) (c : Dev nD) : Dev nD := (turn (far t)).symm c

abbrev barS : Sem sig := (SemArray.scalar (sig.barrier 0 rfl) : Sems sig S_).sem
/-- The DMA semaphore number `k`. -/
abbrev ds (k : Fin 38) : DmaSem sig := k
/-- The send and the receive semaphore of copy `t`. -/
abbrev sS : Fin 9 → DmaSem sig := ![ds 20, ds 21, ds 22, ds 26, ds 28, ds 30, ds 32, ds 34, ds 36]
abbrev sR : Fin 9 → DmaSem sig := ![ds 23, ds 24, ds 25, ds 27, ds 29, ds 31, ds 33, ds 35, ds 37]

abbrev barCell (c : Dev nD) : GSem nD τ sig := ((c : Thread nD τ), .reg barS)
abbrev sCell (t : Fin 9) (c : Dev nD) : GSem nD τ sig := ((c : Thread nD τ), .dma (sS t))
abbrev rCell (t : Fin 9) (c : Dev nD) : GSem nD τ sig := ((c : Thread nD τ), .dma (sR t))

/-! ## The places -/

/-- Slot `i` of the outgoing and of the incoming buffer of the ring. -/
abbrev rsOut (i : Fin 3) : Memref sig .tc .vmem S1x256x1024 .bf16 :=
  (Memref.whole cc0_scratch9).slice (Rect.unit (s := S3x256x1024) ![i.val, 0, 0] S1x256x1024.size (by revert i; decide)) (fun _ => rfl)
abbrev rsBuf (i : Fin 3) : Memref sig .tc .vmem S1x256x1024 .bf16 :=
  (Memref.whole cc0_scratch10).slice (Rect.unit (s := S3x256x1024) ![i.val, 0, 0] S1x256x1024.size (by revert i; decide)) (fun _ => rfl)
/-- Half `h` of slot `s` of the buffer of finished blocks. -/
abbrev agH (s : Fin 4) (h : Fin 2) : Memref sig .tc .vmem S1x128x1024 .bf16 :=
  (Memref.whole cc0_scratch11).slice (Rect.unit (s := S4x256x1024) ![s.val, 128 * h.val, 0] S1x128x1024.size (by revert s h; decide)) (fun _ => rfl)

/-- What a hop and what half a block credits. -/
abbrev N₁ : ℕ := ((rsBuf 0).squeeze S256x1024 squeezes_S1x256x1024_S256x1024).view.dmaCredit
abbrev N₂ : ℕ := ((agH 1 0).squeeze S128x1024 squeezes_S1x128x1024_S128x1024).view.dmaCredit
theorem N₁_pos : 0 < N₁ := View.dmaCredit_pos _ (by decide)
theorem N₂_pos : 0 < N₂ := View.dmaCredit_pos _ (by decide)
/-- What copy `t` credits. -/
abbrev amt : Fin 9 → ℕ := ![N₁, N₁, N₁, N₂, N₂, N₂, N₂, N₂, N₂]

/-- The share of the finished half that copies to the right, the left and the opposite device read. -/
abbrev shr : Fin 3 → PosShare TreeShare := ![fullShare.left, fullShare.right.left, fullShare.right.right]

variable (I : Dev nD → Ins F)

/-- What the send cell of copy `t` gives back to `c`: the place copied from. -/
def sPay (c : Dev nD) : Fin 9 → sProp 𝕄 :=
  ![owns (c : Thread nD τ) (rsOut 0) fullShare (RS0 I c), owns (c : Thread nD τ) (rsOut 1) fullShare (RS1 I c), owns (c : Thread nD τ) (rsOut 2) fullShare (RS2 I c),
    owns (c : Thread nD τ) (agH 0 0) (shr 0) (AG I c 0), owns (c : Thread nD τ) (agH 0 0) (shr 1) (AG I c 0), owns (c : Thread nD τ) (agH 0 0) (shr 2) (AG I c 0),
    owns (c : Thread nD τ) (agH 0 1) (shr 0) (AG I c 1), owns (c : Thread nD τ) (agH 0 1) (shr 1) (AG I c 1), owns (c : Thread nD τ) (agH 0 1) (shr 2) (AG I c 1)]

/-- What the receive cell of copy `t` gives `c`: the place copied onto, at what the sender sent. -/
def rPay (c : Dev nD) : Fin 9 → sProp 𝕄 :=
  ![owns (c : Thread nD τ) (rsBuf 0) fullShare (RS0 I (sh 3 c)), owns (c : Thread nD τ) (rsBuf 1) fullShare (RS1 I (sh 3 c)), owns (c : Thread nD τ) (rsBuf 2) fullShare (RS2 I (sh 3 c)),
    owns (c : Thread nD τ) (agH 1 0) fullShare (AG I (sh 3 c) 0), owns (c : Thread nD τ) (agH 2 0) fullShare (AG I (sh 1 c) 0), owns (c : Thread nD τ) (agH 3 0) fullShare (AG I (sh 2 c) 0),
    owns (c : Thread nD τ) (agH 1 1) fullShare (AG I (sh 3 c) 1), owns (c : Thread nD τ) (agH 2 1) fullShare (AG I (sh 1 c) 1), owns (c : Thread nD τ) (agH 3 1) fullShare (AG I (sh 2 c) 1)]

/-- A place owned at some contents. -/
def any (c : Dev nD) {s : Shape} (m : Memref sig .tc .vmem s .bf16) : sProp 𝕄 := iprop(∃ Z, owns (c : Thread nD τ) m fullShare Z)

/-- What a device receives with the signals of the device on its right, on its left and opposite: the places its copies
    go to there. -/
def barPay (c : Dev nD) : Fin 3 → sProp 𝕄 :=
  ![iprop(any (sh 1 c) (rsBuf 0) ∗ any (sh 1 c) (rsBuf 1) ∗ any (sh 1 c) (rsBuf 2) ∗ any (sh 1 c) (agH 1 0) ∗ any (sh 1 c) (agH 1 1)),
    iprop(any (sh 3 c) (agH 2 0) ∗ any (sh 3 c) (agH 2 1)),
    iprop(any (sh 2 c) (agH 3 0) ∗ any (sh 2 c) (agH 3 1))]

/-- Which copy the semaphores 20, …, 37 are of, and whether they are its receive semaphores. -/
abbrev ofSem : Fin 18 → Bool × Fin 9 :=
  ![(false, 0), (false, 1), (false, 2), (true, 0), (true, 1), (true, 2), (false, 3), (true, 3), (false, 4), (true, 4), (false, 5), (true, 5),
    (false, 6), (true, 6), (false, 7), (true, 7), (false, 8), (true, 8)]
/-- The payload of a copy's cell on `c`. -/
def dPay (c : Dev nD) (k : Bool × Fin 9) : sProp 𝕄 := match k.1 with | true => rPay I c k.2 | false => sPay I c k.2

omit [FloatOps F] in
instance any_storable (c : Dev nD) {s : Shape} (m : Memref sig .tc .vmem s .bf16) : BI.Storable (upEmb : UEmb _ 𝕄) (any (F := F) c m) := by
  unfold any; infer_instance
instance sPay_storable (c : Dev nD) (t : Fin 9) : BI.Storable (upEmb : UEmb _ 𝕄) (sPay I c t) := by
  fin_cases t <;> exact owns_storable _ _ _ _
instance rPay_storable (c : Dev nD) (t : Fin 9) : BI.Storable (upEmb : UEmb _ 𝕄) (rPay I c t) := by
  fin_cases t <;> exact owns_storable _ _ _ _
omit [FloatOps F] in
instance barPay_storable (c : Dev nD) (d : Fin 3) : BI.Storable (upEmb : UEmb _ 𝕄) (barPay (F := F) c d) := by
  match d with
  | 0 => exact (inferInstance : BI.Storable (upEmb : UEmb _ 𝕄)
      iprop(any (sh 1 c) (rsBuf 0) ∗ any (sh 1 c) (rsBuf 1) ∗ any (sh 1 c) (rsBuf 2) ∗ any (sh 1 c) (agH 1 0) ∗ any (sh 1 c) (agH 1 1)))
  | 1 => exact (inferInstance : BI.Storable (upEmb : UEmb _ 𝕄) iprop(any (sh 3 c) (agH 2 0) ∗ any (sh 3 c) (agH 2 1)))
  | 2 => exact (inferInstance : BI.Storable (upEmb : UEmb _ 𝕄) iprop(any (sh 2 c) (agH 3 0) ∗ any (sh 2 c) (agH 3 1)))
instance dPay_storable (c : Dev nD) (k : Bool × Fin 9) : BI.Storable (upEmb : UEmb _ 𝕄) (dPay I c k) := by
  rcases k with ⟨_ | _, t⟩
  · exact sPay_storable I c t
  · exact rPay_storable I c t

/-! ## The schedule -/

/-- One round: three duties of one unit at a barrier cell, one duty of the copy's credit at a send or receive cell. -/
def Rd : Rounds.Schedule (GSem nD τ sig) (Fin 3) 𝕄 where
  duties g r := if r = 0 then (match g.2 with | .reg _ => Finset.univ | .dma q => if 20 ≤ (q : Fin 38).val then {0} else ∅) else ∅
  unitless _ := False
  amount g _ _ := match g.2 with | .reg _ => 1 | .dma q => if (q : Fin 38).val < 26 then N₁ else N₂
  payload g _ d := match g.2 with
    | .reg _ => barPay g.1.1 d
    | .dma q => if h : 20 ≤ (q : Fin 38).val then dPay I g.1.1 (ofSem ⟨(q : Fin 38).val - 20, by have : (q : Fin 38).val < 38 := (q : Fin 38).isLt; omega⟩) else iprop(emp)
  amount_pos g _ _ _ := by
    rcases g with ⟨_, _ | q⟩
    · exact Nat.one_pos
    · show 0 < if (q : Fin 38).val < 26 then N₁ else N₂
      split
      · exact N₁_pos
      · exact N₂_pos

instance Rd_payload_storable (g : GSem nD τ sig) (r : ℕ) (d : Fin 3) :
    BI.Storable (upEmb : UEmb _ 𝕄) ((Rd I).payload g r d) := by
  rcases g with ⟨_, _ | q⟩
  · exact barPay_storable _ d
  · show BI.Storable upEmb (if h : 20 ≤ (q : Fin 38).val then dPay I _ _ else iprop(emp))
    split
    · exact dPay_storable I _ _
    · infer_instance

section Sched
variable (c : Dev nD) (t : Fin 9)

theorem duties_bar : (Rd I).duties (barCell c) 0 = Finset.univ := rfl
theorem duties_s : (Rd I).duties (sCell t c) 0 = {0} := by fin_cases t <;> rfl
theorem duties_r : (Rd I).duties (rCell t c) 0 = {0} := by fin_cases t <;> rfl
theorem duties_later (g : GSem nD τ sig) : ∀ r, 1 ≤ r → (Rd I).duties g r = ∅ := fun r hr => if_neg (by omega)
theorem amount_s : (Rd I).amount (sCell t c) 0 0 = amt t := by fin_cases t <;> rfl
theorem amount_r : (Rd I).amount (rCell t c) 0 0 = amt t := by fin_cases t <;> rfl
theorem payload_s : (Rd I).payload (sCell t c) 0 0 = sPay I c t := by fin_cases t <;> rfl
theorem payload_r : (Rd I).payload (rCell t c) 0 0 = rPay I c t := by fin_cases t <;> rfl
theorem payload_bar (d : Fin 3) : (Rd I).payload (barCell c) 0 d = barPay c d := rfl

theorem expect_bar : (Rd I).expect (barCell c) 0 = 3 := by
  unfold Schedule.expect Schedule.amountOf
  rw [duties_bar]; rfl
theorem expect_s : (Rd I).expect (sCell t c) 0 = amt t := by
  unfold Schedule.expect Schedule.amountOf; rw [duties_s, Finset.sum_singleton, amount_s]
theorem expect_r : (Rd I).expect (rCell t c) 0 = amt t := by
  unfold Schedule.expect Schedule.amountOf; rw [duties_r, Finset.sum_singleton, amount_r]

/-- The whole round of a barrier cell: what the three other devices hand over. -/
theorem rest_bar : bigSep ((Rd I).duties (barCell c) 0 \ ∅) (fun d => (Rd I).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl

end Sched

/-! ## What a core owes; the levels -/

/-- What `c` still owes when its last `n` copies are to come. -/
def Ow (c : Dev nD) : ℕ → CellTallies nD τ sig Unit
  | 0 => 0
  | n + 1 => Ow c n + tallyAt (rCell ⟨8 - n, by omega⟩ (dst ⟨8 - n, by omega⟩ c)) () (amt ⟨8 - n, by omega⟩)

/-- What `c` owes at the beginning: its copies, and a unit to the barrier cell of each other device. -/
def O₀ (c : Dev nD) : CellTallies nD τ sig Unit :=
  Ow c 9 + tallyAt (barCell (sh 2 c)) () 1 + tallyAt (barCell (sh 1 c)) () 1 + tallyAt (barCell (sh 3 c)) () 1

def L (g : GSem nD τ sig) : Finset Unit := if g.1.2 = .tc then {()} else ∅
/-- The barrier is at level 1, the ring's receive cells at 2, 3, 4, those of the finished blocks at 5, the rest at 0. -/
def lvS : SemLoc sig → ℕ
  | .reg _ => 1
  | .dma q => if (q : Fin 38).val < 23 then 0 else if (q : Fin 38).val < 26 then (q : Fin 38).val - 21 else if (q : Fin 38).val % 2 = 1 then 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

omit [FloatOps F] in
theorem Ow_pos {c : Dev nD} {g : GSem nD τ sig} {u : Unit} : ∀ {n : ℕ}, n ≤ 9 → 0 < Ow c n g u → ∃ t : Fin 9, 9 - n ≤ t.val ∧ g = rCell t (dst t c)
  | 0, _, h => absurd h (Nat.lt_irrefl 0)
  | n + 1, hn, h => by
    unfold Ow at h
    rw [Pi.add_apply, Finsupp.add_apply] at h
    by_cases h0 : 0 < Ow c n g u
    · obtain ⟨t, ht, hg⟩ := Ow_pos (n := n) (by omega) h0
      exact ⟨t, by omega, hg⟩
    · exact ⟨⟨8 - n, by omega⟩, by show 9 - (n + 1) ≤ 8 - n; omega, tally_pos (u := u) (Nat.pos_of_ne_zero fun h1 => by rw [h1] at h; omega)⟩

omit [FloatOps F] in
theorem O₀_pos {c : Dev nD} {g : GSem nD τ sig} {u : Unit} (h : 0 < O₀ c g u) :
    (∃ t : Fin 9, g = rCell t (dst t c)) ∨ ∃ n, g = barCell (sh n c) := by
  unfold O₀ at h
  simp only [Pi.add_apply, Finsupp.add_apply] at h
  by_cases h0 : 0 < Ow c 9 g u
  · obtain ⟨t, -, hg⟩ := Ow_pos (le_refl 9) h0
    exact .inl ⟨t, hg⟩
  · by_cases h1 : 0 < tallyAt (barCell (sh 2 c)) () 1 g u
    · exact .inr ⟨2, tally_pos h1⟩
    · by_cases h2 : 0 < tallyAt (barCell (sh 1 c)) () 1 g u
      · exact .inr ⟨1, tally_pos h2⟩
      · exact .inr ⟨3, tally_pos (n := 1) (u := u) (by omega)⟩

theorem lvS_r (t : Fin 9) : 1 < lvS (.dma (sR t)) := by revert t; decide

omit [FloatOps F] in
/-- A core may wait on a semaphore below every copy it still owes. -/
theorem mayWait_Ow (c : Dev nD) (sm : SemLoc sig) (n : ℕ) (hn : n ≤ 9) (h : ∀ t : Fin 9, 9 - n ≤ t.val → lvS sm < lvS (.dma (sR t))) :
    (levAts L lv : sProp 𝕄) ⊢ MayWait (c : Thread nD τ) sm () (Ow c n) :=
  MayOwe.of_cut (L := L) (lev := lv) (lvS sm) (fun p hp => by rw [Finset.mem_singleton.mp hp, L_tc]; exact Finset.mem_singleton_self _)
    (fun g u hg => by obtain ⟨t, -, rfl⟩ := Ow_pos hn hg; exact Finset.mem_singleton_self _)
    (fun p hp => by rw [Finset.mem_singleton.mp hp]; exact le_refl _)
    (fun g u hg => by obtain ⟨t, ht, rfl⟩ := Ow_pos hn hg; exact h t ht)

omit [FloatOps F] in
/-- At the launch's level 0 a core may wait whatever it owes of the protocol. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨n, rfl⟩ <;> exact Finset.mem_singleton_self _)
      (fun p hp => by rw [Finset.mem_singleton.mp hp]; exact le_of_eq hq)
      (fun g u hg => by
        rcases O₀_pos hg with ⟨t, rfl⟩ | ⟨n, rfl⟩
        · exact (Nat.zero_lt_one.trans (lvS_r t))
        · exact Nat.zero_lt_one)
  · rw [MayWait_zero]; iintro -; iempintro

end Cert.KernelIdeal.Pf
-- ==== Proof.Heads.lean ====
module

public import proofs.«01_k».proof.Proof.Proto

/-! # Fetching and rounding one head

The sixteen local copies bring the two heads of a device, keys and values, of all four batch blocks on chip.  Before a
block is used its keys are rounded into a scratch slot, and its values into the left half of a wider one. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Heads

/-! ## Places -/

/-- Slot `i` of the fetched keys and of the fetched values. -/
abbrev kH (i : Fin 8) : Memref sig .tc .vmem S1x1024x128 .f32 :=
  (Memref.whole cc0_scratch3).slice (Rect.unit (s := S8x1024x128) ![i.val, 0, 0] S1x1024x128.size (by revert i; decide)) (fun _ => rfl)
abbrev vH (i : Fin 8) : Memref sig .tc .vmem S1x1024x128 .f32 :=
  (Memref.whole cc0_scratch4).slice (Rect.unit (s := S8x1024x128) ![i.val, 0, 0] S1x1024x128.size (by revert i; decide)) (fun _ => rfl)
/-- Slot `r` of the rounded keys and of the widened values. -/
abbrev kB (r : Fin 2) : Memref sig .tc .vmem S1x1024x128 .bf16 :=
  (Memref.whole cc0_scratch5).slice (Rect.unit (s := S2x1024x128) ![r.val, 0, 0] S1x1024x128.size (by revert r; decide)) (fun _ => rfl)
abbrev vA (r : Fin 2) : Memref sig .tc .vmem S1x1024x256 .bf16 :=
  (Memref.whole cc0_scratch6).slice (Rect.unit (s := S2x1024x256) ![r.val, 0, 0] S1x1024x256.size (by revert r; decide)) (fun _ => rfl)
/-- The slot of head `r` of batch block `b`, and the semaphores of its two copies. -/
abbrev slot (b : Fin 4) (r : Fin 2) : Fin 8 := ⟨2 * b.val + r.val, by omega⟩
abbrev kS (b : Fin 4) (r : Fin 2) : DmaSem sig := ds ⟨4 + 4 * b.val + r.val, by omega⟩
abbrev vS (b : Fin 4) (r : Fin 2) : DmaSem sig := ds ⟨6 + 4 * b.val + r.val, by omega⟩

/-- What one head's copy credits. -/
abbrev N₀ : ℕ := ((kH 0).squeeze S1024x128 squeezes_S1x1024x128_S1024x128).view.dmaCredit
theorem N₀_pos : 0 < N₀ := View.dmaCredit_pos _ (by decide)

variable (c : Dev nD) {α : Type} {Q : α → sProp (MT nD τ sig Unit (Elt F) ℕ UU ℕ)}

/-- The keys, or the values, of head `r` of batch block `b` on their way to their slot. -/
def kFl (A : Ins F) (b : Fin 4) (r : Fin 2) : sProp 𝕄 :=
  Flight EC (c : Thread nD τ) (.dma (kS b r)) () N₀ (owns (c : Thread nD τ) (kH (slot b r)) fullShare (headOf A.kk b (hd c r)))
def vFl (A : Ins F) (b : Fin 4) (r : Fin 2) : sProp 𝕄 :=
  Flight EC (c : Thread nD τ) (.dma (vS b r)) () N₀ (owns (c : Thread nD τ) (vH (slot b r)) fullShare (headOf A.vv b (hd c r)))

/-- A slot of the widened values whose right half is the ones column. -/
def Wide (X : Vec F S1x1024x256 .bf16) : Prop :=
  ∀ (j : S1x1024x256.Idx) (h : 128 ≤ (j 2).val), X j = k0_pay7 (k0_pay6 (F := F)) (ix3 0 (j 1) ⟨(j 2).val - 128, by have : (j 2).val < 256 := (j 2).isLt; omega⟩)
def wide (r : Fin 2) : sProp 𝕄 := iprop(∃ X, ⌜Wide X⌝ ∗ owns (c : Thread nD τ) (vA r) fullShare X)

theorem vslot_wide (A : Vec F S1x1024x128 .f32) : Wide (vslot A) := fun j h => dif_neg (by omega)

theorem wide_intro (r : Fin 2) {X : Vec F S1x1024x256 .bf16} (h : Wide X) : (owns (c : Thread nD τ) (vA r) fullShare X : sProp 𝕄) ⊢ wide c r := by
  unfold wide
  iintro H
  iexists X
  isplitr; · (ipureintro; exact h)
  iexact H

/-- The left half's indices in the wide slot. -/
def lft (j : S1x1024x128.Idx) : S1x1024x256.Idx := ix3 (j 0) (j 1) ⟨(j 2).val, by have : (j 2).val < 128 := (j 2).isLt; omega⟩

theorem lft_emb (r : Fin 2) (h h') (j : S1x1024x128.Idx) :
    (Rect.unit (s := S2x1024x256) ![r.val, 0, 0] S1x1024x128.size h).emb j = (Rect.unit (s := S2x1024x256) ![r.val, 0, 0] S1x1024x256.size h').emb (lft j) :=
  funext fun a => Fin.ext (by fin_cases a <;> rfl)

theorem vslot_lft (A : Vec F S1x1024x128 .f32) (j : S1x1024x128.Idx) : vslot A (lft j) = k0_pay13 A j := by
  have h : (j 2).val < 128 := (j 2).isLt
  have e : (ix3 0 (j 1) ⟨(j 2).val, h⟩ : S1x1024x128.Idx) = j := by
    funext a
    match a with
    | ⟨0, _⟩ => exact Subsingleton.elim (α := Fin 1) _ _
    | ⟨1, _⟩ => rfl
    | ⟨2, _⟩ => rfl
  exact (dif_pos h).trans (congrArg _ e)

theorem not_lft {i : S1x1024x256.Idx} (hi : ∀ j, lft j ≠ i) : 128 ≤ (i 2).val := by
  by_contra h
  refine hi (ix3 (i 0) (i 1) ⟨(i 2).val, by omega⟩) (funext fun a => ?_)
  match a with
  | ⟨0, _⟩ => rfl
  | ⟨1, _⟩ => rfl
  | ⟨2, _⟩ => rfl

/-- Rounding one head: both copies are waited for, the keys are rounded into their slot and the values into the left
    half of theirs. -/
theorem kvcvt (A : Ins F) (b : Fin 4) (r : Fin 2) (O : CellTallies nD τ sig Unit)
    {s1 s2 s3 s4 : Shape} {sp1 sp2 sp3 sp4 : Space} {e1 e2 e3 e4 : EltTy}
    {sm sm' : DmaSem sig} {w1 : Memref sig .tc sp1 s1 e1} {w2 : Memref sig .tc sp2 s2 e2} {w3 : Memref sig .tc sp3 s3 e3} {w4 : Memref sig .tc sp4 s4 e4}
    {hw1 : w1.view.WordExact} {hw2 : w2.view.WordExact} {hw3 : w3.view.WordExact} {hw4 : w4.view.WordExact}
    {o o' : Fin 3 → ℕ} {i1 i2 i3 i4 i3' i4'} {hl1 hl2 hl3 hl4 hx3 hx4 hm3 hm4}
    {pk pv : Vec F S1x1024x128 .f32 → Vec F S1x1024x128 .bf16} {k : PUnit → Prog (TpuEff nD τ sig (Elt F) Λ₀ .tc) α}
    (hs : sm = kS b r) (hs' : sm' = vS b r) (hN : w2.view.dmaCredit = N₀) (hN' : w4.view.dmaCredit = N₀)
    (ho : o = ![(slot b r).val, 0, 0]) (ho' : o' = ![(slot b r).val, 0, 0]) (hpk : pk = k0_pay12) (hpv : pv = k0_pay13)
    (hmw : (levAts L lv : sProp 𝕄) ⊢ MayWait (c : Thread nD τ) (.dma (kS b r)) () O) (hmw' : (levAts L lv : sProp 𝕄) ⊢ MayWait (c : Thread nD τ) (.dma (vS b r)) () O) :
    iprop(levAts L lv ∗ kFl c A b r ∗ vFl c A b r ∗ (∃ X, owns (c : Thread nD τ) (kB r) fullShare X) ∗ wide c r ∗ (∃ W, owes (c : Thread nD τ) O W))
      ⊢ iprop((iprop((∃ X, owns (c : Thread nD τ) (kH (slot b r)) fullShare X) ∗ (∃ X, owns (c : Thread nD τ) (vH (slot b r)) fullShare X)
            ∗ semVal ((c : Thread nD τ), .dma (kS b r)) 0 ∗ semVal ((c : Thread nD τ), .dma (vS b r)) 0
            ∗ owns (c : Thread nD τ) (kB r) fullShare (kb A c b r) ∗ owns (c : Thread nD τ) (vA r) fullShare (vb A c b r) ∗ (∃ W, owes (c : Thread nD τ) O W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm w1 w2 hw1 hw2) fun _ => .op (.waitDma2 sm' w3 w4 hw3 hw4) fun _ =>
            .op (.load (Memref.whole cc0_scratch3) (Rect.unit (s := S8x1024x128) o S1x1024x128.size i1).toLoadRect hl1) fun v =>
            .op (.load (Memref.whole cc0_scratch5) (Rect.unit (s := S2x1024x128) ![r.val, 0, 0] S1x1024x128.size i3).toLoadRect hl3) fun _ =>
            .op (.store (Memref.whole cc0_scratch5) (Rect.unit (s := S2x1024x128) ![r.val, 0, 0] S1x1024x128.size i3') (pk v) Finset.univ hx3 hm3) fun _ =>
            .op (.load (Memref.whole cc0_scratch4) (Rect.unit (s := S8x1024x128) o' S1x1024x128.size i2).toLoadRect hl2) fun u =>
            .op (.load (Memref.whole cc0_scratch6) (Rect.unit (s := S2x1024x256) ![r.val, 0, 0] S1x1024x128.size i4).toLoadRect hl4) fun _ =>
            .op (.store (Memref.whole cc0_scratch6) (Rect.unit (s := S2x1024x256) ![r.val, 0, 0] S1x1024x128.size i4') (pv u) Finset.univ hx4 hm4) k) Q) := by
  subst hpk hpv
  unfold kFl vFl wide
  iintro ⟨#HL, HK, HV, ⟨%Xk, Hk⟩, ⟨%Xv, %hXv, Hv⟩, HO⟩ Hcont
  have h₁ : ∀ j : S1x1024x128.Idx, vb A c b r (lft j) = k0_pay13 (headOf A.vv b (hd c r)) j := fun j => vslot_lft _ j
  have h₂ : ∀ i : S1x1024x256.Idx, (∀ j, lft j ≠ i) → vb A c b r i = Xv i :=
    fun i hi => (vslot_wide _ i (not_lft hi)).trans (hXv i (not_lft hi)).symm
  ihave Hm := hmw $$ HL
  iapply (dma_wait c hs hN) $$ [HK HO Hm]
  · isplitl [HK]; · iexact HK
    isplitl [HO] <;> iassumption
  iintro ⟨HKs, Hs1, HO⟩
  ihave Hm := hmw' $$ HL
  iapply (dma_wait c hs' hN') $$ [HV HO Hm]
  · isplitl [HV]; · iexact HV
    isplitl [HO] <;> iassumption
  iintro ⟨HVs, Hs2, HO⟩
  iapply (ld_at c ho) $$ HKs
  iintro HKs
  iapply (ld_slice c) $$ Hk
  iintro Hk
  iapply (st_slice c) $$ Hk
  iintro Hk
  iapply (ld_at c ho') $$ HVs
  iintro HVs
  iapply (ld_in c lft (lft_emb r _ _)) $$ Hv
  iintro Hv
  iapply (st_in c lft (lft_emb r _ _) (vb A c b r) h₁ h₂) $$ Hv
  iintro Hv
  iapply Hcont
  isplitl [HKs]; · (iexists _; iexact HKs)
  isplitl [HVs]; · (iexists _; iexact HVs)
  isplitl [Hs1]; · iexact Hs1
  isplitl [Hs2]; · iexact Hs2
  isplitl [Hk]; · iexact Hk
  isplitl [Hv]; · iexact Hv
  iexact HO

end Heads
end Cert.KernelIdeal.Pf
-- ==== Proof.Attn.lean ====
module

public import proofs.«01_k».proof.Proof.Heads

/-! # The attention of one batch block

One stretch of the kernel, run for three whole blocks of 256 rows and for two half blocks of 128: the query product of
the rows, the attention of both head groups, and their product with the output weights, stored to the rows of the
result. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Attn

abbrev xB : Memref sig .tc .vmem S1024x1024 .bf16 := Memref.whole cc0_scratch0
abbrev wqB : Memref sig .tc .vmem S1024x1024 .bf16 := Memref.whole cc0_scratch1
abbrev woB : Memref sig .tc .vmem S1024x1024 .bf16 := Memref.whole cc0_scratch2
abbrev qB : Memref sig .tc .vmem S256x1024 .bf16 := Memref.whole cc0_scratch7
abbrev aB : Memref sig .tc .vmem S256x1024 .bf16 := Memref.whole cc0_scratch8

/-- The rectangle of a whole buffer places every index at itself. -/
theorem emb_whole {s : Shape} {o : Fin s.rank → ℕ} {h : ∀ a, o a + s.size a ≤ s.size a} (ho : o = fun _ => 0) (j : s.Idx) :
    (Rect.unit (s := s) o s.size h).emb j = j := by
  subst ho
  refine funext fun a => Fin.ext ?_
  show 0 + 1 * (j a).val = (j a).val
  omega

theorem zero2 : (![0, 0] : Fin 2 → ℕ) = fun _ => 0 := funext fun a => by fin_cases a <;> rfl
theorem zero3 : (![0, 0, 0] : Fin 3 → ℕ) = fun _ => 0 := funext fun a => by fin_cases a <;> rfl

section Cols
variable {n : ℕ} (i0 : ∀ a, (![0, 0] : Fin 2 → ℕ) a + (![n, 1024] : Fin 2 → ℕ) a ≤ S256x1024.size a)
  (ia : ∀ a, (![0, 0] : Fin 2 → ℕ) a + (![n, 512] : Fin 2 → ℕ) a ≤ S256x1024.size a)
  (ib : ∀ a, (![0, 512] : Fin 2 → ℕ) a + (![n, 512] : Fin 2 → ℕ) a ≤ S256x1024.size a)

abbrev rw' : Rect S256x1024 := Rect.unit (s := S256x1024) ![0, 0] ![n, 1024] i0
abbrev ra' : Rect S256x1024 := Rect.unit (s := S256x1024) ![0, 0] ![n, 512] ia
abbrev rb' : Rect S256x1024 := Rect.unit (s := S256x1024) ![0, 512] ![n, 512] ib

/-- The first 512 columns of rows stored before. -/
theorem read_colsL {e : EltTy} (X : Vec F S256x1024 e) (w : Vec F ⟨2, ![n, 1024]⟩ e) (j : (⟨2, ![n, 512]⟩ : Shape).Idx) :
    (rw' i0).overlay X w ((ra' ia).emb j) = colsL w j := by
  have h : (ra' ia).emb j = (rw' i0).emb (ix2 (j 0) ⟨(j 1).val, by have : (j 1).val < 512 := (j 1).isLt; omega⟩) :=
    funext fun a => Fin.ext (by fin_cases a <;> rfl)
  rw [h]
  exact Rect.overlay_emb _ _ _ _

/-- The last 512 columns of rows stored before. -/
theorem read_colsR {e : EltTy} (X : Vec F S256x1024 e) (w : Vec F ⟨2, ![n, 1024]⟩ e) (j : (⟨2, ![n, 512]⟩ : Shape).Idx) :
    (rw' i0).overlay X w ((rb' ib).emb j) = colsR w j := by
  have h : (rb' ib).emb j = (rw' i0).emb (ix2 (j 0) ⟨512 + (j 1).val, by have : (j 1).val < 512 := (j 1).isLt; omega⟩) :=
    funext fun a => Fin.ext (by
      fin_cases a
      · rfl
      · show 512 + 1 * (j 1).val = 0 + 1 * (512 + (j 1).val)
        omega)
  rw [h]
  exact Rect.overlay_emb _ _ _ _

/-- Rows whose two groups of columns were stored one after the other. -/
theorem read_cat {e : EltTy} (X : Vec F S256x1024 e) (A B : Vec F ⟨2, ![n, 512]⟩ e) (j : (⟨2, ![n, 1024]⟩ : Shape).Idx) :
    (rb' ib).overlay ((ra' ia).overlay X A) B ((rw' i0).emb j) = cat A B j := by
  have hj : (j 1).val < 1024 := (j 1).isLt
  unfold cat
  by_cases h : (j 1).val < 512
  · have e : (rw' i0).emb j = (ra' ia).emb (ix2 (j 0) ⟨(j 1).val, h⟩) := funext fun a => Fin.ext (by fin_cases a <;> rfl)
    rw [dif_pos h, e]
    rw [Rect.overlay_of_not_mem _ _ _ fun hm => ?_]
    · exact Rect.overlay_emb _ _ _ _
    · obtain ⟨i, hi⟩ := (rb' ib).exists_idx_of_mem hm
      have h1 : 512 + 1 * (i 1).val = 0 + 1 * (j 1).val := congrArg (fun x : S256x1024.Idx => (x 1).val) hi
      omega
  · have e : (rw' i0).emb j = (rb' ib).emb (ix2 (j 0) ⟨(j 1).val - 512, by omega⟩) := funext fun a => Fin.ext (by
      fin_cases a
      · rfl
      · show 0 + 1 * (j 1).val = 512 + 1 * ((j 1).val - 512)
        omega)
    rw [dif_neg h, e]
    exact Rect.overlay_emb _ _ _ _

end Cols

variable (c : Dev nD) {α : Type} {Q : α → sProp (MT nD τ sig Unit (Elt F) ℕ UU ℕ)}

/-- The attention of `n` rows: the result's rows `ro` become the product of the two head groups' attention with the
    output weights. -/
theorem qattn (n : ℕ) {mo : Memref sig .tc .vmem S1024x1024 .f32} (R : Vec F ⟨2, ![n, 1024]⟩ .bf16)
    (Xx Wq Wo : Vec F S1024x1024 .bf16) (K0 K1 : Vec F S1x1024x128 .bf16) (V0 V1 : Vec F S1x1024x256 .bf16) (Xo : Vec F S1024x1024 .f32)
    {pq : Vec F ⟨2, ![n, 1024]⟩ .bf16 → Vec F S1024x1024 .bf16 → Vec F ⟨2, ![n, 1024]⟩ .bf16}
    {pa pb : Vec F ⟨2, ![n, 512]⟩ .bf16 → Vec F S1x1024x128 .bf16 → Vec F S1x1024x256 .bf16 → Vec F ⟨2, ![n, 512]⟩ .bf16}
    {po : Vec F ⟨2, ![n, 1024]⟩ .bf16 → Vec F S1024x1024 .bf16 → Vec F ⟨2, ![n, 1024]⟩ .f32}
    {ox oo : Fin 2 → ℕ} {i0 i0' ia ia' ib ib' ic ic' ie ie' ih ig ix iw iv iu io io'} {l1 l2 l3 l4 l5 l6 l7 l8 l9 l10 l11 l12 l13 l14 y1 y2 y3 y4 z1 z2 z3 z4}
    {k : PUnit → Prog (TpuEff nD τ sig (Elt F) Λ₀ .tc) α}
    (hR : ∀ j, Xx ((Rect.unit (s := S1024x1024) ox ![n, 1024] ix).emb j) = R j) (hpb : pb = pa) :
    iprop(owns (c : Thread nD τ) xB fullShare Xx ∗ owns (c : Thread nD τ) wqB fullShare Wq ∗ owns (c : Thread nD τ) woB fullShare Wo
        ∗ (∃ X, owns (c : Thread nD τ) qB fullShare X) ∗ (∃ X, owns (c : Thread nD τ) aB fullShare X)
        ∗ owns (c : Thread nD τ) (kB 0) fullShare K0 ∗ owns (c : Thread nD τ) (vA 0) fullShare V0
        ∗ owns (c : Thread nD τ) (kB 1) fullShare K1 ∗ owns (c : Thread nD τ) (vA 1) fullShare V1
        ∗ owns (c : Thread nD τ) mo fullShare Xo)
      ⊢ iprop((iprop(owns (c : Thread nD τ) xB fullShare Xx ∗ owns (c : Thread nD τ) wqB fullShare Wq ∗ owns (c : Thread nD τ) woB fullShare Wo
            ∗ (∃ X, owns (c : Thread nD τ) qB fullShare X) ∗ (∃ X, owns (c : Thread nD τ) aB fullShare X)
            ∗ owns (c : Thread nD τ) (kB 0) fullShare K0 ∗ owns (c : Thread nD τ) (vA 0) fullShare V0
            ∗ owns (c : Thread nD τ) (kB 1) fullShare K1 ∗ owns (c : Thread nD τ) (vA 1) fullShare V1
            ∗ owns (c : Thread nD τ) mo fullShare ((Rect.unit (s := S1024x1024) oo ![n, 1024] io).overlay Xo
                (po (cat (pa (colsL (pq R Wq)) K0 V0) (pa (colsR (pq R Wq)) K1 V1)) Wo)))
          -∗ wp frame (wpE (defs₀ (F := F)) 𝒱₀ (c : Thread nD τ) none) Set.univ (k ⟨⟩) Q)
        -∗ wp frame (wpE (defs₀ (F := F)) 𝒱₀ (c : Thread nD τ) none) Set.univ (.op (.load xB (Rect.unit (s := S1024x1024) ox ![n, 1024] ix).toLoadRect l1) fun x =>
            .op (.load wqB (Rect.unit (s := S1024x1024) ![0, 0] ![1024, 1024] iw).toLoadRect l2) fun w =>
            .op (.load qB (Rect.unit (s := S256x1024) ![0, 0] ![n, 1024] i0).toLoadRect l3) fun _ =>
            .op (.store qB (Rect.unit (s := S256x1024) ![0, 0] ![n, 1024] i0') (pq x w) Finset.univ y1 z1) fun _ =>
            .op (.load qB (Rect.unit (s := S256x1024) ![0, 0] ![n, 512] ia).toLoadRect l4) fun q0 =>
            .op (.load (Memref.whole cc0_scratch5) (Rect.unit (s := S2x1024x128) ![0, 0, 0] S1x1024x128.size ie).toLoadRect l5) fun k0 =>
            .op (.load (Memref.whole cc0_scratch6) (Rect.unit (s := S2x1024x256) ![0, 0, 0] S1x1024x256.size ih).toLoadRect l6) fun v0 =>
            .op (.load aB (Rect.unit (s := S256x1024) ![0, 0] ![n, 512] ic).toLoadRect l7) fun _ =>
            .op (.store aB (Rect.unit (s := S256x1024) ![0, 0] ![n, 512] ic') (pa q0 k0 v0) Finset.univ y2 z2) fun _ =>
            .op (.load qB (Rect.unit (s := S256x1024) ![0, 512] ![n, 512] ib).toLoadRect l8) fun q1 =>
            .op (.load (Memref.whole cc0_scratch5) (Rect.unit (s := S2x1024x128) ![1, 0, 0] S1x1024x128.size ie').toLoadRect l9) fun k1 =>
            .op (.load (Memref.whole cc0_scratch6) (Rect.unit (s := S2x1024x256) ![1, 0, 0] S1x1024x256.size ig).toLoadRect l10) fun v1 =>
            .op (.load aB (Rect.unit (s := S256x1024) ![0, 512] ![n, 512] ib').toLoadRect l11) fun _ =>
            .op (.store aB (Rect.unit (s := S256x1024) ![0, 512] ![n, 512] ia') (pb q1 k1 v1) Finset.univ y3 z3) fun _ =>
            .op (.load aB (Rect.unit (s := S256x1024) ![0, 0] ![n, 1024] iv).toLoadRect l12) fun at' =>
            .op (.load woB (Rect.unit (s := S1024x1024) ![0, 0] ![1024, 1024] iu).toLoadRect l13) fun w' =>
            .op (.load mo (Rect.unit (s := S1024x1024) oo ![n, 1024] io).toLoadRect l14) fun _ =>
            .op (.store mo (Rect.unit (s := S1024x1024) oo ![n, 1024] io') (po at' w') Finset.univ y4 z4) k) Q) := by
  subst hpb
  iintro ⟨Hx, Hwq, Hwo, ⟨%Xq, Hq⟩, ⟨%Xa, Ha⟩, Hk0, Hv0, Hk1, Hv1, Ho⟩ Hcont
  iapply (ld_as c R hR) $$ Hx
  iintro Hx
  iapply (ld_as c Wq (fun j => congrArg Wq (emb_whole (s := S1024x1024) zero2 j))) $$ Hwq
  iintro Hwq
  iapply (ld c) $$ Hq
  iintro Hq
  iapply (st c) $$ Hq
  iintro Hq
  iapply (ld_as c (colsL (pq R Wq)) (read_colsL i0' ia Xq (pq R Wq))) $$ Hq
  iintro Hq
  iapply (ld_slice c) $$ Hk0
  iintro Hk0
  iapply (ld_slice c) $$ Hv0
  iintro Hv0
  iapply (ld c) $$ Ha
  iintro Ha
  iapply (st c) $$ Ha
  iintro Ha
  iapply (ld_as c (colsR (pq R Wq)) (read_colsR i0' ib Xq (pq R Wq))) $$ Hq
  iintro Hq
  iapply (ld_slice c) $$ Hk1
  iintro Hk1
  iapply (ld_slice c) $$ Hv1
  iintro Hv1
  iapply (ld c) $$ Ha
  iintro Ha
  iapply (st c) $$ Ha
  iintro Ha
  iapply (ld_as c (cat (pb (colsL (pq R Wq)) K0 V0) (pb (colsR (pq R Wq)) K1 V1)) (read_cat iv ic' ia' Xa _ _)) $$ Ha
  iintro Ha
  iapply (ld_as c Wo (fun j => congrArg Wo (emb_whole (s := S1024x1024) zero2 j))) $$ Hwo
  iintro Hwo
  iapply (ld c) $$ Ho
  iintro Ho
  iapply (st c) $$ Ho
  iintro Ho
  iapply Hcont
  isplitl [Hx]; · iexact Hx
  isplitl [Hwq]; · iexact Hwq
  isplitl [Hwo]; · iexact Hwo
  isplitl [Hq]; · (iexists _; iexact Hq)
  isplitl [Ha]; · (iexists _; iexact Ha)
  isplitl [Hk0]; · iexact Hk0
  isplitl [Hv0]; · iexact Hv0
  isplitl [Hk1]; · iexact Hk1
  isplitl [Hv1]; · iexact Hv1
  iexact Ho

end Attn
end Cert.KernelIdeal.Pf
-- ==== Proof.Cells.lean ====
module

public import proofs.«01_k».proof.Proof.Attn

/-! # Steps at the protocol's cells

The cells of all devices, their records, and one rule each for a copy `t`, for the wait on its send cell, for the wait
on its receive cell, and for the barrier at the start. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- The cells of one device: the barrier, and the send (`false`) and receive (`true`) cell of every copy. -/
abbrev Cell : Type := Option (Bool × Fin 9)
abbrev csem : Cell → SemLoc sig
  | none => .reg barS
  | some (false, t) => .dma (sS t)
  | some (true, t) => .dma (sR t)
abbrev kcell (p : Dev nD × Cell) : GSem nD τ sig := ((p.1 : Thread nD τ), csem p.2)

section Cells
variable (I : Dev nD → Ins F) (K : Dev nD × Cell → ℕ)

/-- All cells' invariants, and that all are at their round. -/
def recs : sProp 𝕄 :=
  iprop((bigSep Finset.univ fun p : Dev nD × Cell => cellInv ER (Rd I) (K p) (kcell p)) ∗ bigSep Finset.univ fun p : Dev nD × Cell => reached ER (kcell p) 0)
instance recs_persistent : BI.Persistent (recs I K) := by unfold recs; infer_instance

theorem inv_at (p : Dev nD × Cell) : recs I K ⊢ cellInv ER (Rd I) (K p) (kcell p) := by
  unfold recs; exact sep_elim_left.trans (bigSep_elim (Finset.mem_univ p))
theorem reached_at (p : Dev nD × Cell) : recs I K ⊢ reached ER (kcell p) 0 := by
  unfold recs; exact sep_elim_right.trans (bigSep_elim (Finset.mem_univ p))

variable (c : Dev nD)

/-- Copy `t` not yet issued: its two duties, and the position at its send cell. -/
def fr (t : Fin 9) : sProp 𝕄 := iprop(dutyTok ER (sCell t c) 0 0 ∗ dutyTok ER (rCell t (dst t c)) 0 0 ∗ atPos ER (sCell t c) 0 ∅ 0)
/-- Copy `t` issued: its send cell's credit, and the position there. -/
def sn (t : Fin 9) : sProp 𝕄 := iprop(cred (tallyAt (sCell t c) () (amt t)) ∗ atPos ER (sCell t c) 0 ∅ 0)
/-- Copy `t` onto this device expected. -/
def rv (t : Fin 9) : sProp 𝕄 := iprop(cred (tallyAt (rCell t c) () (amt t)) ∗ atPos ER (rCell t c) 0 ∅ 0)

omit [FloatOps F] in
theorem Ow_step (t : Fin 9) : Ow c (9 - t.val) = Ow c (8 - t.val) + tallyAt (rCell t (dst t c)) () (amt t) := by
  fin_cases t <;> rfl

variable {α : Type} {Q : α → sProp (MT nD τ sig Unit (Elt F) ℕ UU ℕ)}

/-- Issuing copy `t`. -/
theorem sendT {sp sp' : Space} {s s₁ : Shape} {e : EltTy} (t : Fin 9) (d' : Dev nD) {src src' : Memref sig .tc sp s₁ e} {dm dm' : Memref sig .tc sp' s₁ e} {h₁ : s₁.Squeezes s} {h₂ : s₁.Squeezes s}
    {sS' sR' : DmaSem sig} {hsc : ((dm'.squeeze s h₂ : Memref sig (Dev.tc d' : Thread nD τ).2.kind sp' s e)).view.ref.isScScratch = false}
    {hsrc : (src'.squeeze s h₁).view.WordExact} {hdst : (dm'.squeeze s h₂).view.WordExact}
    {hsem : DmaTarget.Typed sp (.dma sR') (.remote (Dev.tc d' : Thread nD τ) (dm'.squeeze s h₂) (.dma sS') hsc)}
    {k : PUnit → Prog (TpuEff nD τ sig (Elt F) Λ₀ .tc) α} {q : PosShare TreeShare} {X : s₁.Idx → Elt F e}
    (hdd : d' = dst t c) (hs : src' = src) (hd : dm' = dm) (hS : sS' = sS t) (hR : sR' = sR t)
    (hN : (dm.squeeze s h₂).view.dmaCredit = amt t)
    (hpay₁ : owns (c : Thread nD τ) src q X ⊢ sPay I c t) (hpay₂ : owns (dst t c : Thread nD τ) dm fullShare X ⊢ rPay I (dst t c) t) :
    iprop(recs I K ∗ fr c t ∗ owns (c : Thread nD τ) src q X ∗ (∃ Z, owns (dst t c : Thread nD τ) dm fullShare Z) ∗ (∃ W, owes (c : Thread nD τ) (Ow c (9 - t.val)) W))
      ⊢ iprop((iprop(sn c t ∗ (∃ W, owes (c : Thread nD τ) (Ow c (8 - t.val)) W)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (src'.squeeze s h₁) (.remote (Dev.tc d' : Thread nD τ) (dm'.squeeze s h₂) (.dma sS') hsc) (.dma sR') hsrc hdst hsem) k) Q) := by
  have m₁ : (0 : Fin 3) ∈ (Rd I).duties (sCell t c) 0 := by rw [duties_s]; exact Finset.mem_singleton_self _
  have m₂ : (0 : Fin 3) ∈ (Rd I).duties (rCell t (dst t c)) 0 := by rw [duties_r]; exact Finset.mem_singleton_self _
  have p₁ : owns (c : Thread nD τ) src q X ⊢ (Rd I).payload (sCell t c) 0 0 := by rw [payload_s]; exact hpay₁
  have p₂ : owns (dst t c : Thread nD τ) dm fullShare X ⊢ (Rd I).payload (rCell t (dst t c)) 0 0 := by rw [payload_r]; exact hpay₂
  have R := send (k := k) (Q := Q) (hsc := hsc) (hsrc := hsrc) (hdst := hdst) (hsem := hsem) c (Rd I) (dst t c) d' hdd hs hd hS hR (κ₁ := K (c, some (false, t))) (κ₂ := K (dst t c, some (true, t))) m₁ m₂ hN (amount_s I c t) (amount_r I (dst t c) t)
    (Ow c (8 - t.val)) (Ow_step c t) p₁ p₂
  unfold fr sn
  iintro ⟨#HR, ⟨Ht1, Ht2, Ha⟩, Hs, Hd, HO⟩ Hk
  iapply R $$ [Ht1 Ht2 Hs Hd HO]
  · isplitr; · (iapply (inv_at I K (c, some (false, t))); iexact HR)
    isplitr; · (iapply (inv_at I K (dst t c, some (true, t))); iexact HR)
    isplitl [Hs]; · iexact Hs
    isplitl [Hd]; · iexact Hd
    isplitl [HO]; · iexact HO
    isplitl [Ht1]; · iexact Ht1
    isplitr; · (iapply (reached_at I K (c, some (false, t))); iexact HR)
    isplitl [Ht2]; · iexact Ht2
    iapply (reached_at I K (dst t c, some (true, t))); iexact HR
  iintro ⟨Hc, HO⟩
  iapply Hk
  isplitl [Hc Ha]
  · isplitl [Hc] <;> iassumption
  iexact HO

/-- The wait on the send cell of copy `t`: the place copied from is back. -/
theorem waitS {sp sp' : Space} {s s' : Shape} {e e' : EltTy} (t : Fin 9) (n : ℕ) {srcw : Memref sig .tc sp s e} {dstw : Memref sig .tc sp' s' e'} {sm' : DmaSem sig}
    {hsrc : srcw.view.WordExact} {hdst : dstw.view.WordExact} {k : PUnit → Prog (TpuEff nD τ sig (Elt F) Λ₀ .tc) α}
    (hsm : sm' = sS t) (hN : dstw.view.dmaCredit = amt t) (hn : n ≤ 9) (h : ∀ t' : Fin 9, 9 - n ≤ t'.val → lvS (.dma (sS t)) < lvS (.dma (sR t'))) :
    iprop(recs I K ∗ levAts L lv ∗ sn c t ∗ (∃ W, owes (c : Thread nD τ) (Ow c n) W))
      ⊢ iprop((iprop(sPay I c t ∗ semVal (sCell t c) 0 ∗ (∃ W, owes (c : Thread nD τ) (Ow c n) W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm' srcw dstw hsrc hdst) k) Q) := by
  have hm := mayWait_Ow (F := F) c (.dma (sS t)) n hn h
  have R := cell_wait (k := k) (Q := Q) (hsrc := hsrc) (hdst := hdst) (O := Ow c n) (κ := K (c, some (false, t))) c (Rd I) hsm hN (duties_s I c t) (amount_s I c t) (duties_later I (sCell t c)) (fun h => h)
  rw [payload_s] at R
  unfold sn
  iintro ⟨#HR, #HL, ⟨Hc, Ha⟩, HO⟩ Hk
  ihave Hm := hm $$ HL
  iapply R $$ [Hc Ha HO Hm]
  · isplitr; · (iapply (inv_at I K (c, some (false, t))); iexact HR)
    isplitl [Hc]; · iexact Hc
    isplitl [HO]; · iexact HO
    isplitl [Hm] <;> iassumption
  iexact Hk

/-- The wait on the receive cell of copy `t`: the place copied onto arrives. -/
theorem waitR {sp sp' : Space} {s s' : Shape} {e e' : EltTy} (t : Fin 9) (n : ℕ) {srcw : Memref sig .tc sp s e} {dstw : Memref sig .tc sp' s' e'} {sm' : DmaSem sig}
    {hsrc : srcw.view.WordExact} {hdst : dstw.view.WordExact} {k : PUnit → Prog (TpuEff nD τ sig (Elt F) Λ₀ .tc) α}
    (hsm : sm' = sR t) (hN : dstw.view.dmaCredit = amt t) (hn : n ≤ 9) (h : ∀ t' : Fin 9, 9 - n ≤ t'.val → lvS (.dma (sR t)) < lvS (.dma (sR t'))) :
    iprop(recs I K ∗ levAts L lv ∗ rv c t ∗ (∃ W, owes (c : Thread nD τ) (Ow c n) W))
      ⊢ iprop((iprop(rPay I c t ∗ semVal (rCell t c) 0 ∗ (∃ W, owes (c : Thread nD τ) (Ow c n) W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm' srcw dstw hsrc hdst) k) Q) := by
  have hm := mayWait_Ow (F := F) c (.dma (sR t)) n hn h
  have R := cell_wait (k := k) (Q := Q) (hsrc := hsrc) (hdst := hdst) (O := Ow c n) (κ := K (c, some (true, t))) c (Rd I) hsm hN (duties_r I c t) (amount_r I c t) (duties_later I (rCell t c)) (fun h => h)
  rw [payload_r] at R
  unfold rv
  iintro ⟨#HR, #HL, ⟨Hc, Ha⟩, HO⟩ Hk
  ihave Hm := hm $$ HL
  iapply R $$ [Hc Ha HO Hm]
  · isplitr; · (iapply (inv_at I K (c, some (true, t))); iexact HR)
    isplitl [Hc]; · iexact Hc
    isplitl [HO]; · iexact HO
    isplitl [Hm] <;> iassumption
  iexact Hk

/-- A device's signal to the barrier of device `d`: duty `j` there, with the places device `d` will copy to. -/
theorem signalT (d d' : Dev nD) (j : Fin 3) (O : CellTallies nD τ sig Unit) {O' : CellTallies nD τ sig Unit} {z : ℤ} {k : PUnit → Prog (TpuEff nD τ sig (Elt F) Λ₀ .tc) α}
    (hd : d' = d) (hz : z = ((1 : ℕ) : ℤ)) (hO : O' = O + tallyAt (barCell d) () 1) :
    iprop(recs I K ∗ dutyTok ER (barCell d) 0 j ∗ barPay d j ∗ (∃ W, owes (c : Thread nD τ) O' W))
      ⊢ iprop(((∃ W, owes (c : Thread nD τ) O W) -∗ wp frame (wpE (defs₀ (F := F)) 𝒱₀ (c : Thread nD τ) none) Set.univ (k ⟨⟩) Q) -∗ wp frame (wpE (defs₀ (F := F)) 𝒱₀ (c : Thread nD τ) none) Set.univ (.op (.semSignal (d' : Thread nD τ) barS z) k) Q) := by
  subst hd hz
  have R (W) : iprop(cellInv ER (Rd I) (K (d', none)) (barCell d') ∗ owes (c : Thread nD τ) O' W ∗ dutyTok ER (barCell d') 0 j ∗ (Rd I).payload (barCell d') 0 j
        ∗ reached ER (barCell d') 0)
      ⊢ iprop((owes (c : Thread nD τ) O W -∗ wp frame (wpE (defs₀ (F := F)) 𝒱₀ (c : Thread nD τ) none) Set.univ (k ⟨⟩) Q) -∗ wp frame (wpE (defs₀ (F := F)) 𝒱₀ (c : Thread nD τ) none) Set.univ (.op (.semSignal (d' : Thread nD τ) barS ((1 : ℕ) : ℤ)) k) Q) :=
    Rounds.wp_signal 𝒱₀ ER (Rd I) (c : Thread nD τ) none (dst := (d' : Thread nD τ)) (κ := K (d', none)) (r := 0) (d := j) (Finset.mem_univ _) rfl () O hO
  rw [payload_bar] at R
  iintro ⟨#HR, Ht, Hp, ⟨%W, HO⟩⟩ Hk
  iapply (R W) $$ [Ht Hp HO]
  · isplitr; · (iapply (inv_at I K (d', none)); iexact HR)
    isplitl [HO]; · iexact HO
    isplitl [Ht]; · iexact Ht
    isplitl [Hp]; · iexact Hp
    iapply (reached_at I K (d', none)); iexact HR
  iintro HO
  iapply Hk
  iexists W; iexact HO

/-- The wait on the own barrier: what the three other devices hand over. -/
theorem barWait {w : ℤ} {k : PUnit → Prog (TpuEff nD τ sig (Elt F) Λ₀ .tc) α} (hw : w = ((3 : ℕ) : ℤ)) :
    iprop(recs I K ∗ levAts L lv ∗ cred (tallyAt (barCell c) () 3) ∗ atPos ER (barCell c) 0 ∅ 0 ∗ (∃ W, owes (c : Thread nD τ) (Ow c 9) W))
      ⊢ iprop((iprop(barPay c 0 ∗ barPay c 1 ∗ barPay c 2 ∗ semVal (barCell c) 0 ∗ (∃ W, owes (c : Thread nD τ) (Ow c 9) W)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  have hm := mayWait_Ow (F := F) c (.reg barS) 9 (le_refl 9) (fun t _ => lvS_r t)
  have R (W) := Rounds.wp_wait_rest_token (k := k) (Q := Q) 𝒱₀ ER (Rd I) (c : Thread nD τ) none (κ := K (c, none))
      (wpE_semWait_eq (defs := defs₀ (F := F)) (Val := Elt F) 𝒱₀ (c : Thread nD τ) none Set.univ) (Set.mem_univ _) () (O := Ow c 9) (W := W) (R := 0) (m := 0) (T := ∅)
      (by rw [Nat.zero_add, expect_bar])
  have hrest := rest_bar I c
  have hclose := Rounds.cell_close ER (Rd I) (Set.mem_univ (K (c, none))) (fun h => h) (R := 0 + 1) (duties_later I (barCell c))
  iintro ⟨#HR, #HL, Hc, Ha, ⟨%W, HO⟩⟩ Hk
  ihave Hm := hm $$ HL
  iapply (R W) $$ [Hc Ha HO Hm]
  · isplitr; · (iapply (inv_at I K (c, none)); iexact HR)
    isplitl [Hc]; · iexact Hc
    isplitl [HO]; · iexact HO
    isplitl [Hm] <;> iassumption
  iintro ⟨HO, Ha, -, Hpay⟩
  ihave Hp := (Entails.of_eq hrest) $$ Hpay
  icases Hp with ⟨H0, H1, H2⟩
  imod hclose $$ [Ha] with Hz
  · isplitr; · (iapply (inv_at I K (c, none)); iexact HR)
    iexact Ha
  iapply Hk
  isplitl [H0]; · iexact H0
  isplitl [H1]; · iexact H1
  isplitl [H2]; · iexact H2
  isplitl [Hz]; · iexact Hz
  iexists _; iexact HO

end Cells
end Cert.KernelIdeal.Pf
-- ==== Proof.Setup.lean ====
module

public import proofs.«01_k».proof.Proof.Cells
public import Idealize.ShloMosaic.Lib.ValueLayout

/-! # Before the first block

The copies of the keys and values are issued, the staged arguments rounded, and the ones column set. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Setup
variable (c : Dev nD) {α : Type} {Q : α → sProp (MT nD τ sig Unit (Elt F) ℕ UU ℕ)}

/-- The arguments `K_ext` and `V_ext` where they are. -/
abbrev kA : Memref sig .tc .hbm S4x1024x8x128 .f32 := Memref.whole main_arg2
abbrev vAr : Memref sig .tc .hbm S4x1024x8x128 .f32 := Memref.whole main_arg3

/-- Head `h` of batch block `b`, read through the squeezed places. -/
theorem head_read (X : Vec F S4x1024x8x128 .f32) (b : Fin 4) (h : Fin 8) (hb) (j : S1024x128.Idx) :
    headOf X b h (Shape.reshapeEquiv squeezes_S1x1024x128_S1024x128.numel_eq j)
      = X ((Rect.unit (s := S4x1024x8x128) ![b.val, 0, h.val, 0] S1x1024x1x128.size hb).emb (Shape.reshapeEquiv squeezes_S1x1024x1x128_S1024x128.numel_eq j)) := by
  have e₁ : Shape.reshapeEquiv squeezes_S1x1024x128_S1024x128.numel_eq j = ix3 (0 : Fin 1) (j 0) (j 1) :=
    Shape.reshapeEquiv_eq_of_rowMajor _ (by
      set_option backward.isDefEq.respectTransparency false in rw [Shape.rowMajor_val_three, Shape.rowMajor_val_two]
      show (0 * 1024 + (j 0).val) * 128 + (j 1).val = (j 0).val * 128 + (j 1).val
      omega)
  have e : Shape.reshapeEquiv squeezes_S1x1024x1x128_S1024x128.numel_eq j = ix4 (0 : Fin 1) (j 0) (0 : Fin 1) (j 1) :=
    Shape.reshapeEquiv_eq_of_rowMajor _ (by
      set_option backward.isDefEq.respectTransparency false in rw [Shape.rowMajor_val_four, Shape.rowMajor_val_two]
      show ((0 * 1024 + (j 0).val) * 1 + 0) * 128 + (j 1).val = (j 0).val * 128 + (j 1).val
      omega)
  rw [e₁]
  rw [e]
  refine congrArg X (funext fun a => Fin.ext ?_)
  match a with
  | ⟨0, _⟩ => rfl
  | ⟨1, _⟩ => show (j 0).val = 0 + 1 * (j 0).val; omega
  | ⟨2, _⟩ => rfl
  | ⟨3, _⟩ => show (j 1).val = 0 + 1 * (j 1).val; omega

/-- One head's copy issued: the argument stays, at half its share. -/
theorem fetch1 (X : Vec F S4x1024x8x128 .f32) (b : Fin 4) (h : Fin 8) {M : Memref sig .tc .hbm S4x1024x8x128 .f32} {dm dm' : Memref sig .tc .vmem S1x1024x128 .f32} {sm sm' : DmaSem sig}
    {o : Fin 4 → ℕ} {ho' : ∀ a, o a + S1x1024x1x128.size a ≤ S4x1024x8x128.size a} {hr}
    {hsrc : ((M.slice (Rect.unit (s := S4x1024x8x128) o S1x1024x1x128.size ho') hr).squeeze S1024x128 squeezes_S1x1024x1x128_S1024x128).view.WordExact} {hdst : (dm'.squeeze S1024x128 squeezes_S1x1024x128_S1024x128).view.WordExact}
    {hsem : DmaTarget.Typed (nD := nD) (p := (Proc.tc : Proc τ)) .hbm (.dma sm') (.here (dm'.squeeze S1024x128 squeezes_S1x1024x128_S1024x128))}
    {k : PUnit → Prog (TpuEff nD τ sig (Elt F) Λ₀ .tc) α} {q : PosShare TreeShare}
    (ho : o = ![b.val, 0, h.val, 0]) (hd : dm' = dm) (hsm : sm' = sm) (hN : (dm.squeeze S1024x128 squeezes_S1x1024x128_S1024x128).view.dmaCredit = N₀) :
    iprop(owns (c : Thread nD τ) M q X ∗ (∃ Z, owns (c : Thread nD τ) dm fullShare Z) ∗ semVal ((c : Thread nD τ), .dma sm) 0)
      ⊢ iprop((iprop(owns (c : Thread nD τ) M q.left X ∗ Flight EC (c : Thread nD τ) (.dma sm) () N₀ (owns (c : Thread nD τ) dm fullShare (headOf X b h))) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((M.slice (Rect.unit (s := S4x1024x8x128) o S1x1024x1x128.size ho') hr).squeeze S1024x128 squeezes_S1x1024x1x128_S1024x128)
            (.here (dm'.squeeze S1024x128 squeezes_S1x1024x128_S1024x128)) (.dma sm') hsrc hdst hsem) k) Q) := by
  subst ho
  have R := dma (k := k) (Q := Q) (hsrc := hsrc) (hdst := hdst) (hsem := hsem) (q := q.right) (X := fun i => X ((Rect.unit (s := S4x1024x8x128) ![b.val, 0, h.val, 0] S1x1024x1x128.size ho').emb i)) c rfl hd hsm (headOf X b h) (head_read X b h ho') N₀ hN N₀_pos
  have hh : (owns (c : Thread nD τ) M q X : sProp 𝕄) ⊢ iprop(owns (c : Thread nD τ) M q.left X ∗ owns (c : Thread nD τ) M q.right X) := (owns_halves (c : Thread nD τ) M q X).1
  have hsp : (owns (c : Thread nD τ) M q.right X : sProp 𝕄) ⊢ _ := owns_slice_split (c : Thread nD τ) M q.right (Rect.unit (s := S4x1024x8x128) ![b.val, 0, h.val, 0] S1x1024x1x128.size ho') hr X
  iintro ⟨HM, Hd, Hs⟩ Hk
  ihave H2 := hh $$ HM
  icases H2 with ⟨Hl, Hr⟩
  ihave H3 := hsp $$ Hr
  icases H3 with ⟨Hr, -⟩
  iapply R $$ [Hr Hd Hs]
  · isplitl [Hr]; · iexact Hr
    isplitl [Hd] <;> iassumption
  iintro Hf
  iapply Hk
  isplitl [Hl] <;> iassumption

/-- Both copies of one head issued. -/
theorem fetch (A : Ins F) (b : Fin 4) (r : Fin 2) {q : PosShare TreeShare} {dk dv : Memref sig .tc .vmem S1x1024x128 .f32} {sk sv : DmaSem sig}
    {o o' : Fin 4 → ℕ} {ho₁ : ∀ a, o a + S1x1024x1x128.size a ≤ S4x1024x8x128.size a} {ho₂ : ∀ a, o' a + S1x1024x1x128.size a ≤ S4x1024x8x128.size a} {hr hr'}
    {hsrc : ((kA.slice (Rect.unit (s := S4x1024x8x128) o S1x1024x1x128.size ho₁) hr).squeeze S1024x128 squeezes_S1x1024x1x128_S1024x128).view.WordExact}
    {hsrc' : ((vAr.slice (Rect.unit (s := S4x1024x8x128) o' S1x1024x1x128.size ho₂) hr').squeeze S1024x128 squeezes_S1x1024x1x128_S1024x128).view.WordExact}
    {hdst : (dk.squeeze S1024x128 squeezes_S1x1024x128_S1024x128).view.WordExact} {hdst' : (dv.squeeze S1024x128 squeezes_S1x1024x128_S1024x128).view.WordExact}
    {hsem : DmaTarget.Typed (nD := nD) (p := (Proc.tc : Proc τ)) .hbm (.dma sk) (.here (dk.squeeze S1024x128 squeezes_S1x1024x128_S1024x128))}
    {hsem' : DmaTarget.Typed (nD := nD) (p := (Proc.tc : Proc τ)) .hbm (.dma sv) (.here (dv.squeeze S1024x128 squeezes_S1x1024x128_S1024x128))}
    {k : PUnit → Prog (TpuEff nD τ sig (Elt F) Λ₀ .tc) α}
    (ho : o = ![b.val, 0, (hd c r).val, 0]) (ho' : o' = ![b.val, 0, (hd c r).val, 0]) (hdk : dk = kH (slot b r)) (hdv : dv = vH (slot b r)) (hsk : sk = kS b r) (hsv : sv = vS b r) :
    iprop((owns (c : Thread nD τ) kA q A.kk ∗ owns (c : Thread nD τ) vAr q A.vv)
        ∗ (∃ X, owns (c : Thread nD τ) (kH (slot b r)) fullShare X) ∗ (∃ X, owns (c : Thread nD τ) (vH (slot b r)) fullShare X)
        ∗ semVal ((c : Thread nD τ), .dma (kS b r)) 0 ∗ semVal ((c : Thread nD τ), .dma (vS b r)) 0)
      ⊢ iprop((iprop((owns (c : Thread nD τ) kA q.left A.kk ∗ owns (c : Thread nD τ) vAr q.left A.vv) ∗ kFl c A b r ∗ vFl c A b r) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((kA.slice (Rect.unit (s := S4x1024x8x128) o S1x1024x1x128.size ho₁) hr).squeeze S1024x128 squeezes_S1x1024x1x128_S1024x128)
            (.here (dk.squeeze S1024x128 squeezes_S1x1024x128_S1024x128)) (.dma sk) hsrc hdst hsem) fun _ =>
          .op (.enqueueDma ((vAr.slice (Rect.unit (s := S4x1024x8x128) o' S1x1024x1x128.size ho₂) hr').squeeze S1024x128 squeezes_S1x1024x1x128_S1024x128)
            (.here (dv.squeeze S1024x128 squeezes_S1x1024x128_S1024x128)) (.dma sv) hsrc' hdst' hsem') k) Q) := by
  have hN : ((kH (slot b r)).squeeze S1024x128 squeezes_S1x1024x128_S1024x128).view.dmaCredit = N₀ := rfl
  have hN' : ((vH (slot b r)).squeeze S1024x128 squeezes_S1x1024x128_S1024x128).view.dmaCredit = N₀ := rfl
  unfold kFl vFl
  iintro ⟨⟨HK, HV⟩, Hdk, Hdv, Hsk, Hsv⟩ Hk
  iapply (fetch1 c A.kk b (hd c r) ho hdk hsk hN) $$ [HK Hdk Hsk]
  · isplitl [HK]; · iexact HK
    isplitl [Hdk] <;> iassumption
  iintro ⟨HK, Hkf⟩
  iapply (fetch1 c A.vv b (hd c r) ho' hdv hsv hN') $$ [HV Hdv Hsv]
  · isplitl [HV]; · iexact HV
    isplitl [Hdv] <;> iassumption
  iintro ⟨HV, Hvf⟩
  iapply Hk
  isplitl [HK HV]
  · isplitl [HK] <;> iassumption
  isplitl [Hkf] <;> iassumption

/-- A whole buffer read and its rounding stored to another whole buffer. -/
theorem fill {sa sb : Shape} {ea eb : EltTy} {ma : Memref sig .tc .vmem sa ea} {mb : Memref sig .tc .vmem sb eb} {q : PosShare TreeShare} {X : sa.Idx → Elt F ea}
    {oa : Fin sa.rank → ℕ} {ob : Fin sb.rank → ℕ} {ia ib ib'} {la lb y z} {pay : (sa.Idx → Elt F ea) → (sb.Idx → Elt F eb)}
    {k : PUnit → Prog (TpuEff nD τ sig (Elt F) Λ₀ .tc) α} (ha : oa = fun _ => 0) (hb : ob = fun _ => 0) :
    iprop(owns (c : Thread nD τ) ma q X ∗ (∃ Z, owns (c : Thread nD τ) mb fullShare Z))
      ⊢ iprop((iprop(owns (c : Thread nD τ) ma q X ∗ owns (c : Thread nD τ) mb fullShare (pay X)) -∗ wp frame (wpE (defs₀ (F := F)) 𝒱₀ (c : Thread nD τ) none) Set.univ (k ⟨⟩) Q)
        -∗ wp frame (wpE (defs₀ (F := F)) 𝒱₀ (c : Thread nD τ) none) Set.univ (.op (.load ma (Rect.unit (s := sa) oa sa.size ia).toLoadRect la) fun x =>
            .op (.load mb (Rect.unit (s := sb) ob sb.size ib).toLoadRect lb) fun _ =>
            .op (.store mb (Rect.unit (s := sb) ob sb.size ib') (pay x) Finset.univ y z) k) Q) := by
  have h₁ : ∀ j : sb.Idx, pay X ((Rect.unit (s := sb) ob sb.size ib').emb j) = pay X j := fun j => congrArg _ (emb_whole hb j)
  have h₂ (Z : sb.Idx → Elt F eb) : ∀ i : sb.Idx, i ∉ (Rect.unit (s := sb) ob sb.size ib').set → pay X i = Z i := fun i hi => by
    refine absurd ?_ hi
    have := (Rect.unit (s := sb) ob sb.size ib').idx_mem i
    rwa [show (Rect.unit (s := sb) ob sb.size ib').idx i = i from emb_whole hb i] at this
  iintro ⟨Ha, ⟨%Z, Hb⟩⟩ Hk
  iapply (ld_as c X (fun j => congrArg X (emb_whole ha j))) $$ Ha
  iintro Ha
  iapply (ld c) $$ Hb
  iintro Hb
  iapply (st_as c (pay X) h₁ (h₂ Z)) $$ Hb
  iintro Hb
  iapply Hk
  isplitl [Ha] <;> iassumption

/-- The right half's indices in the wide slot. -/
def rgt (j : S1x1024x128.Idx) : S1x1024x256.Idx := ix3 (j 0) (j 1) ⟨128 + (j 2).val, by have : (j 2).val < 128 := (j 2).isLt; omega⟩

theorem rgt_emb (r : Fin 2) (h h') (j : S1x1024x128.Idx) :
    (Rect.unit (s := S2x1024x256) ![r.val, 0, 128] S1x1024x128.size h).emb j = (Rect.unit (s := S2x1024x256) ![r.val, 0, 0] S1x1024x256.size h').emb (rgt j) :=
  funext fun a => Fin.ext (by
    match a with
    | ⟨0, _⟩ => rfl
    | ⟨1, _⟩ => rfl
    | ⟨2, _⟩ => show 128 + 1 * (j 2).val = 0 + 1 * (128 + (j 2).val); omega)

/-- The right half of a wide slot set to the ones column. -/
theorem setOnes (r : Fin 2) {i3 i3'} {l y z} {w : Vec F S1x1024x128 .bf16} {k : PUnit → Prog (TpuEff nD τ sig (Elt F) Λ₀ .tc) α}
    (hw : w = k0_pay7 (k0_pay6 (F := F))) :
    iprop(∃ X, owns (c : Thread nD τ) (vA r) fullShare X)
      ⊢ iprop((wide c r -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch6) (Rect.unit (s := S2x1024x256) ![r.val, 0, 128] S1x1024x128.size i3).toLoadRect l) fun _ =>
            .op (.store (Memref.whole cc0_scratch6) (Rect.unit (s := S2x1024x256) ![r.val, 0, 128] S1x1024x128.size i3') w Finset.univ y z) k) Q) := by
  subst hw
  let Y (X : Vec F S1x1024x256 .bf16) : Vec F S1x1024x256 .bf16 := fun j =>
    if h : 128 ≤ (j 2).val then k0_pay7 (k0_pay6 (F := F)) (ix3 0 (j 1) ⟨(j 2).val - 128, by have : (j 2).val < 256 := (j 2).isLt; omega⟩) else X j
  have hY (X) : Wide (Y X) := fun j h => dif_pos h
  have h₁ (X) : ∀ j : S1x1024x128.Idx, Y X (rgt j) = k0_pay7 (k0_pay6 (F := F)) j := fun j => by
    have h : 128 ≤ ((rgt j) 2).val := Nat.le_add_right 128 _
    refine (dif_pos h).trans (congrArg _ (funext fun a => ?_))
    match a with
    | ⟨0, _⟩ => exact Subsingleton.elim (α := Fin 1) _ _
    | ⟨1, _⟩ => rfl
    | ⟨2, _⟩ => exact Fin.ext (by show 128 + (j 2).val - 128 = (j 2).val; omega)
  have h₂ (X) : ∀ i : S1x1024x256.Idx, (∀ j, rgt j ≠ i) → Y X i = X i := fun i hi => dif_neg fun h => by
    refine hi (ix3 (i 0) (i 1) ⟨(i 2).val - 128, by have : (i 2).val < 256 := (i 2).isLt; omega⟩) (funext fun a => ?_)
    match a with
    | ⟨0, _⟩ => rfl
    | ⟨1, _⟩ => rfl
    | ⟨2, _⟩ => exact Fin.ext (by show 128 + ((i 2).val - 128) = (i 2).val; omega)
  iintro ⟨%X, H⟩ Hk
  iapply (ld_in c rgt (rgt_emb r _ _)) $$ H
  iintro H
  iapply (st_in c rgt (rgt_emb r _ _) (Y X) (h₁ X) (h₂ X)) $$ H
  iintro H
  iapply Hk
  iapply (wide_intro c r (hY X)) $$ H

end Setup
end Cert.KernelIdeal.Pf
-- ==== Proof.Ring.lean ====
module

public import proofs.«01_k».proof.Proof.Setup

/-! # Steps of the ring and of the gathering

The payloads of the copies' cells; the store of a hop's block and its sending; the closing of half a block: the last
addition, its rounding and its three copies. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section RingSteps
variable (I : Dev nD → Ins F) (K : Dev nD × Cell → ℕ) (c : Dev nD)

/-- Copy number of half `h` to the right (`j = 0`), to the left (`1`) and opposite (`2`); the slot it goes to. -/
abbrev tt (h : Fin 2) (j : Fin 3) : Fin 9 := ⟨3 + 3 * h.val + j.val, by omega⟩
abbrev sl (j : Fin 3) : Fin 4 := ⟨1 + j.val, by omega⟩

/-- Half `h` of the finished block, at the share copy `j` reads. -/
theorem sPay_ag (h : Fin 2) (j : Fin 3) : sPay I c (tt h j) = owns (c : Thread nD τ) (agH 0 h) (shr j) (AG I c h) := by
  fin_cases h <;> fin_cases j <;> rfl

/-- What copy `j` of half `h` leaves on the device it goes to. -/
theorem rPay_ag (h : Fin 2) (j : Fin 3) :
    rPay I (dst (tt h j) c) (tt h j) = owns (dst (tt h j) c : Thread nD τ) (agH (sl j) h) fullShare (AG I c h) := by
  have e1 : sh 3 (sh 1 c) = c := sh31 c
  have e2 : sh 1 (sh 3 c) = c := sh13 c
  have e3 : sh 2 (sh 2 c) = c := sh22 c
  fin_cases h <;> fin_cases j
  · exact congrArg (fun d => owns (sh 1 c : Thread nD τ) (agH 1 0) fullShare (AG I d 0)) e1
  · exact congrArg (fun d => owns (sh 3 c : Thread nD τ) (agH 2 0) fullShare (AG I d 0)) e2
  · exact congrArg (fun d => owns (sh 2 c : Thread nD τ) (agH 3 0) fullShare (AG I d 0)) e3
  · exact congrArg (fun d => owns (sh 1 c : Thread nD τ) (agH 1 1) fullShare (AG I d 1)) e1
  · exact congrArg (fun d => owns (sh 3 c : Thread nD τ) (agH 2 1) fullShare (AG I d 1)) e2
  · exact congrArg (fun d => owns (sh 2 c : Thread nD τ) (agH 3 1) fullShare (AG I d 1)) e3

/-- The block hop `i` takes. -/
theorem sPay_rs (i : Fin 3) : sPay I c ⟨i.val, by omega⟩ = owns (c : Thread nD τ) (rsOut i) fullShare (RS I i c) := by
  fin_cases i <;> rfl
theorem rPay_rs (i : Fin 3) : rPay I (dst ⟨i.val, by omega⟩ c) ⟨i.val, by omega⟩ = owns (dst ⟨i.val, by omega⟩ c : Thread nD τ) (rsBuf i) fullShare (RS I i c) := by
  have e1 : sh 3 (sh 1 c) = c := sh31 c
  fin_cases i
  · exact congrArg (fun d => owns (sh 1 c : Thread nD τ) (rsBuf 0) fullShare (RS0 I d)) e1
  · exact congrArg (fun d => owns (sh 1 c : Thread nD τ) (rsBuf 1) fullShare (RS1 I d)) e1
  · exact congrArg (fun d => owns (sh 1 c : Thread nD τ) (rsBuf 2) fullShare (RS2 I d)) e1

variable {α : Type} {Q : α → sProp (MT nD τ sig Unit (Elt F) ℕ UU ℕ)}

/-- A hop: its block stored and sent to the right. -/
theorem push (i : Fin 3) (d' : Dev nD) {i1 i2 l y z} {w : Vec F S1x256x1024 .bf16} {src' dm' : Memref sig .tc .vmem S1x256x1024 .bf16}
    {sS' sR' : DmaSem sig} {hsc : ((dm'.squeeze S256x1024 squeezes_S1x256x1024_S256x1024 : Memref sig (Dev.tc d' : Thread nD τ).2.kind .vmem S256x1024 .bf16)).view.ref.isScScratch = false}
    {hsrc : (src'.squeeze S256x1024 squeezes_S1x256x1024_S256x1024).view.WordExact} {hdst : (dm'.squeeze S256x1024 squeezes_S1x256x1024_S256x1024).view.WordExact}
    {hsem : DmaTarget.Typed .vmem (.dma sR') (.remote (Dev.tc d' : Thread nD τ) (dm'.squeeze S256x1024 squeezes_S1x256x1024_S256x1024) (.dma sS') hsc)}
    {k : PUnit → Prog (TpuEff nD τ sig (Elt F) Λ₀ .tc) α}
    (hw : w = RS I i c) (hdd : d' = sh 1 c) (hs : src' = rsOut i) (hd : dm' = rsBuf i) (hS : sS' = sS ⟨i.val, by omega⟩) (hR : sR' = sR ⟨i.val, by omega⟩) :
    iprop(recs I K ∗ fr c ⟨i.val, by omega⟩ ∗ any c (rsOut i) ∗ any (sh 1 c) (rsBuf i) ∗ (∃ W, owes (c : Thread nD τ) (Ow c (9 - i.val)) W))
      ⊢ iprop((iprop(sn c ⟨i.val, by omega⟩ ∗ (∃ W, owes (c : Thread nD τ) (Ow c (8 - i.val)) W)) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch9) (Rect.unit (s := S3x256x1024) ![i.val, 0, 0] S1x256x1024.size i1).toLoadRect l) fun _ =>
            .op (.store (Memref.whole cc0_scratch9) (Rect.unit (s := S3x256x1024) ![i.val, 0, 0] S1x256x1024.size i2) w Finset.univ y z) fun _ =>
            .op (.enqueueDma (src'.squeeze S256x1024 squeezes_S1x256x1024_S256x1024) (.remote (Dev.tc d' : Thread nD τ) (dm'.squeeze S256x1024 squeezes_S1x256x1024_S256x1024) (.dma sS') hsc) (.dma sR') hsrc hdst hsem) k) Q) := by
  subst hw
  have hdt : sh 1 c = dst ⟨i.val, by omega⟩ c := by fin_cases i <;> rfl
  have hN : ((rsBuf i).squeeze S256x1024 squeezes_S1x256x1024_S256x1024).view.dmaCredit = amt ⟨i.val, by omega⟩ := by fin_cases i <;> rfl
  have R := sendT (k := k) (Q := Q) (hsc := hsc) (hsrc := hsrc) (hdst := hdst) (hsem := hsem) I K c ⟨i.val, by omega⟩ d' (hdd.trans hdt) hs hd hS hR hN
    (Entails.of_eq (sPay_rs I c i).symm) (Entails.of_eq (rPay_rs I c i).symm)
  rw [← hdt] at R
  unfold any
  iintro ⟨#HR, Hf, ⟨%Z, Ho⟩, Hb, HO⟩ Hk
  iapply (ld_slice c) $$ Ho
  iintro Ho
  iapply (st_slice c) $$ Ho
  iintro Ho
  iapply R $$ [Hf Ho Hb HO]
  · isplitr; · iexact HR
    isplitl [Hf]; · iexact Hf
    isplitl [Ho]; · iexact Ho
    isplitl [Hb] <;> iassumption
  iexact Hk

/-- Half `h`'s indices in a slot. -/
def hlf (h : Fin 2) (j : S1x128x1024.Idx) : S1x256x1024.Idx :=
  ix3 0 ⟨128 * h.val + (j 1).val, by have : (j 1).val < 128 := (j 1).isLt; omega⟩ (j 2)

theorem hlf_emb (h : Fin 2) (i₁ i₂) (j : S1x128x1024.Idx) :
    (Rect.unit (s := S3x256x1024) ![2, 128 * h.val, 0] S1x128x1024.size i₁).emb j = (Rect.unit (s := S3x256x1024) ![2, 0, 0] S1x256x1024.size i₂).emb (hlf h j) :=
  funext fun a => Fin.ext (by
    match a with
    | ⟨0, _⟩ =>
      show 2 + 1 * (j 0).val = 2 + 1 * 0
      have : (j 0).val < 1 := (j 0).isLt
      omega
    | ⟨1, _⟩ => show 128 * h.val + 1 * (j 1).val = 0 + 1 * (128 * h.val + (j 1).val); omega
    | ⟨2, _⟩ => rfl)

/-- The closing of half `h` of the block whose sum ends here: the last addition into the result, its rounding, and the
    three copies of that. -/
theorem half (h : Fin 2) {mo : Memref sig .tc .vmem S1024x1024 .f32} (X0 : Vec F S1024x1024 .f32) {oo : Fin 2 → ℕ} {io io' io₃ io₄ i5 i6 i7 l1 l2 l3 l4 y1 y2 z1 z2}
    {pf : Vec F S128x1024 .f32 → Vec F S1x128x1024 .bf16 → Vec F S128x1024 .f32} {pg : Vec F S128x1024 .f32 → Vec F S1x128x1024 .bf16 → Vec F S1x128x1024 .bf16}
    {d0 d1 d2 : Dev nD} {s0 m0 s1 m1 s2 m2 : Memref sig .tc .vmem S1x128x1024 .bf16} {a0 b0 a1 b1 a2 b2 : DmaSem sig}
    {hc0 : ((m0.squeeze S128x1024 squeezes_S1x128x1024_S128x1024 : Memref sig (Dev.tc d0 : Thread nD τ).2.kind .vmem S128x1024 .bf16)).view.ref.isScScratch = false}
    {hc1 : ((m1.squeeze S128x1024 squeezes_S1x128x1024_S128x1024 : Memref sig (Dev.tc d1 : Thread nD τ).2.kind .vmem S128x1024 .bf16)).view.ref.isScScratch = false}
    {hc2 : ((m2.squeeze S128x1024 squeezes_S1x128x1024_S128x1024 : Memref sig (Dev.tc d2 : Thread nD τ).2.kind .vmem S128x1024 .bf16)).view.ref.isScScratch = false}
    {u0 : (s0.squeeze S128x1024 squeezes_S1x128x1024_S128x1024).view.WordExact} {v0 : (m0.squeeze S128x1024 squeezes_S1x128x1024_S128x1024).view.WordExact}
    {u1 : (s1.squeeze S128x1024 squeezes_S1x128x1024_S128x1024).view.WordExact} {v1 : (m1.squeeze S128x1024 squeezes_S1x128x1024_S128x1024).view.WordExact}
    {u2 : (s2.squeeze S128x1024 squeezes_S1x128x1024_S128x1024).view.WordExact} {v2 : (m2.squeeze S128x1024 squeezes_S1x128x1024_S128x1024).view.WordExact}
    {w0 : DmaTarget.Typed .vmem (.dma b0) (.remote (Dev.tc d0 : Thread nD τ) (m0.squeeze S128x1024 squeezes_S1x128x1024_S128x1024) (.dma a0) hc0)}
    {w1 : DmaTarget.Typed .vmem (.dma b1) (.remote (Dev.tc d1 : Thread nD τ) (m1.squeeze S128x1024 squeezes_S1x128x1024_S128x1024) (.dma a1) hc1)}
    {w2 : DmaTarget.Typed .vmem (.dma b2) (.remote (Dev.tc d2 : Thread nD τ) (m2.squeeze S128x1024 squeezes_S1x128x1024_S128x1024) (.dma a2) hc2)}
    {k : PUnit → Prog (TpuEff nD τ sig (Elt F) Λ₀ .tc) α}
    (hpf : pf = k0_pay50) (hpg : pg = k0_pay51)
    (e0 : d0 = dst (tt h 0) c ∧ s0 = agH 0 h ∧ m0 = agH (sl 0) h ∧ a0 = sS (tt h 0) ∧ b0 = sR (tt h 0))
    (e1 : d1 = dst (tt h 1) c ∧ s1 = agH 0 h ∧ m1 = agH (sl 1) h ∧ a1 = sS (tt h 1) ∧ b1 = sR (tt h 1))
    (e2 : d2 = dst (tt h 2) c ∧ s2 = agH 0 h ∧ m2 = agH (sl 2) h ∧ a2 = sS (tt h 2) ∧ b2 = sR (tt h 2)) :
    iprop(recs I K ∗ (fr c (tt h 0) ∗ fr c (tt h 1) ∗ fr c (tt h 2)) ∗ any c (agH 0 h)
        ∗ (any (dst (tt h 0) c) (agH (sl 0) h) ∗ any (dst (tt h 1) c) (agH (sl 1) h) ∗ any (dst (tt h 2) c) (agH (sl 2) h))
        ∗ owns (c : Thread nD τ) (rsBuf 2) fullShare (RS2 I (sh 3 c))
        ∗ owns (c : Thread nD τ) mo fullShare ((Rect.unit (s := S1024x1024) oo ![128, 1024] io).overlay X0 (partH (I c) c (sh 1 c) h))
        ∗ (∃ W, owes (c : Thread nD τ) (Ow c (9 - (tt h 0).val)) W))
      ⊢ iprop((iprop((sn c (tt h 0) ∗ sn c (tt h 1) ∗ sn c (tt h 2)) ∗ owns (c : Thread nD τ) (rsBuf 2) fullShare (RS2 I (sh 3 c))
            ∗ owns (c : Thread nD τ) mo fullShare ((Rect.unit (s := S1024x1024) oo ![128, 1024] io).overlay
                ((Rect.unit (s := S1024x1024) oo ![128, 1024] io).overlay X0 (partH (I c) c (sh 1 c) h)) (fin I c h))
            ∗ (∃ W, owes (c : Thread nD τ) (Ow c (8 - (tt h 2).val)) W)) -∗ wp frame (wpE (defs₀ (F := F)) 𝒱₀ (c : Thread nD τ) none) Set.univ (k ⟨⟩) Q)
        -∗ wp frame (wpE (defs₀ (F := F)) 𝒱₀ (c : Thread nD τ) none) Set.univ (.op (.load mo (Rect.unit (s := S1024x1024) oo ![128, 1024] io').toLoadRect l1) fun v =>
            .op (.load (Memref.whole cc0_scratch10) (Rect.unit (s := S3x256x1024) ![2, 128 * h.val, 0] S1x128x1024.size i5).toLoadRect l2) fun u =>
            .op (.load mo (Rect.unit (s := S1024x1024) oo ![128, 1024] io₃).toLoadRect l3) fun _ =>
            .op (.store mo (Rect.unit (s := S1024x1024) oo ![128, 1024] io₄) (pf v u) Finset.univ y1 z1) fun _ =>
            .op (.load (Memref.whole cc0_scratch11) (Rect.unit (s := S4x256x1024) ![0, 128 * h.val, 0] S1x128x1024.size i6).toLoadRect l4) fun _ =>
            .op (.store (Memref.whole cc0_scratch11) (Rect.unit (s := S4x256x1024) ![0, 128 * h.val, 0] S1x128x1024.size i7) (pg v u) Finset.univ y2 z2) fun _ =>
            .op (.enqueueDma (s0.squeeze S128x1024 squeezes_S1x128x1024_S128x1024) (.remote (Dev.tc d0 : Thread nD τ) (m0.squeeze S128x1024 squeezes_S1x128x1024_S128x1024) (.dma a0) hc0) (.dma b0) u0 v0 w0) fun _ =>
            .op (.enqueueDma (s1.squeeze S128x1024 squeezes_S1x128x1024_S128x1024) (.remote (Dev.tc d1 : Thread nD τ) (m1.squeeze S128x1024 squeezes_S1x128x1024_S128x1024) (.dma a1) hc1) (.dma b1) u1 v1 w1) fun _ =>
            .op (.enqueueDma (s2.squeeze S128x1024 squeezes_S1x128x1024_S128x1024) (.remote (Dev.tc d2 : Thread nD τ) (m2.squeeze S128x1024 squeezes_S1x128x1024_S128x1024) (.dma a2) hc2) (.dma b2) u2 v2 w2) k) Q) := by
  subst hpf hpg
  obtain ⟨e01, e02, e03, e04, e05⟩ := e0
  obtain ⟨e11, e12, e13, e14, e15⟩ := e1
  obtain ⟨e21, e22, e23, e24, e25⟩ := e2
  have hN (j : Fin 3) : ((agH (sl j) h).squeeze S128x1024 squeezes_S1x128x1024_S128x1024).view.dmaCredit = amt (tt h j) := by fin_cases h <;> fin_cases j <;> rfl
  have hS (j : Fin 3) := Entails.of_eq (sPay_ag I c h j).symm
  have hR (j : Fin 3) := Entails.of_eq (rPay_ag I c h j).symm
  have n0 : 8 - (tt h 0).val = 9 - (tt h 1).val := by show 8 - (3 + 3 * h.val + 0) = 9 - (3 + 3 * h.val + 1); omega
  have n1 : 8 - (tt h 1).val = 9 - (tt h 2).val := by show 8 - (3 + 3 * h.val + 1) = 9 - (3 + 3 * h.val + 2); omega
  have R2 := sendT (k := k) (Q := Q) (hsc := hc2) (hsrc := u2) (hdst := v2) (hsem := w2) I K c (tt h 2) d2 e21 e22 e23 e24 e25 (hN 2) (hS 2) (hR 2)
  have R1 (k') := sendT (k := k') (Q := Q) (hsc := hc1) (hsrc := u1) (hdst := v1) (hsem := w1) I K c (tt h 1) d1 e11 e12 e13 e14 e15 (hN 1) (hS 1) (hR 1)
  have R0 (k') := sendT (k := k') (Q := Q) (hsc := hc0) (hsrc := u0) (hdst := v0) (hsem := w0) I K c (tt h 0) d0 e01 e02 e03 e04 e05 (hN 0) (hS 0) (hR 0)
  rw [← n1] at R2
  have R1 (k') := n0 ▸ R1 k'
  have hrd : ∀ j, ((Rect.unit (s := S1024x1024) oo ![128, 1024] io).overlay X0 (partH (I c) c (sh 1 c) h)) ((Rect.unit (s := S1024x1024) oo ![128, 1024] io).emb j) = partH (I c) c (sh 1 c) h j :=
    fun j => Rect.overlay_emb _ _ _ j
  have hh₁ : (owns (c : Thread nD τ) (agH 0 h) fullShare (k0_pay51 (partH (I c) c (sh 1 c) h) fun j => RS2 I (sh 3 c) (hlf h j)) : sProp 𝕄) ⊢ iprop(owns (c : Thread nD τ) (agH 0 h) fullShare.left (AG I c h) ∗ owns (c : Thread nD τ) (agH 0 h) fullShare.right (AG I c h)) :=
    (owns_halves (c : Thread nD τ) (agH 0 h) fullShare (AG I c h)).1
  have hh₂ : (owns (c : Thread nD τ) (agH 0 h) fullShare.right (AG I c h) : sProp 𝕄) ⊢ iprop(owns (c : Thread nD τ) (agH 0 h) fullShare.right.left (AG I c h) ∗ owns (c : Thread nD τ) (agH 0 h) fullShare.right.right (AG I c h)) :=
    (owns_halves (c : Thread nD τ) (agH 0 h) fullShare.right (AG I c h)).1
  unfold any
  iintro ⟨#HR, ⟨Hf0, Hf1, Hf2⟩, ⟨%Zg, Hg⟩, ⟨Hd0, Hd1, Hd2⟩, Hb, Ho, HO⟩ Hk
  iapply (ld_as c (partH (I c) c (sh 1 c) h) hrd) $$ Ho
  iintro Ho
  iapply (ld_in c (hlf h) (hlf_emb h _ _)) $$ Hb
  iintro Hb
  iapply (ld c) $$ Ho
  iintro Ho
  iapply (st c) $$ Ho
  iintro Ho
  iapply (ld_slice c) $$ Hg
  iintro Hg
  iapply (st_slice c) $$ Hg
  iintro Hg
  ihave Hg := hh₁ $$ [Hg]
  · iexact Hg
  icases Hg with ⟨Hg0, Hg⟩
  ihave Hg := hh₂ $$ Hg
  icases Hg with ⟨Hg1, Hg2⟩
  iapply (R0 _) $$ [Hf0 Hg0 Hd0 HO]
  · isplitr; · iexact HR
    isplitl [Hf0]; · iexact Hf0
    isplitl [Hg0]; · iexact Hg0
    isplitl [Hd0] <;> iassumption
  iintro ⟨Hs0, HO⟩
  iapply (R1 _) $$ [Hf1 Hg1 Hd1 HO]
  · isplitr; · iexact HR
    isplitl [Hf1]; · iexact Hf1
    isplitl [Hg1]; · iexact Hg1
    isplitl [Hd1] <;> iassumption
  iintro ⟨Hs1, HO⟩
  iapply R2 $$ [Hf2 Hg2 Hd2 HO]
  · isplitr; · iexact HR
    isplitl [Hf2]; · iexact Hf2
    isplitl [Hg2]; · iexact Hg2
    isplitl [Hd2] <;> iassumption
  iintro ⟨Hs2, HO⟩
  iapply Hk
  isplitl [Hs0 Hs1 Hs2]
  · isplitl [Hs0]; · iexact Hs0
    isplitl [Hs1] <;> iassumption
  isplitl [Hb]; · iexact Hb
  isplitl [Ho]; · iexact Ho
  iexact HO

end RingSteps
end Cert.KernelIdeal.Pf
-- ==== Proof.Places.lean ====
module

public import proofs.«01_k».proof.Proof.Ring

/-! # Buffers and their parts

A buffer is split into parts and joined from them, at known contents or at any; the result's buffer with the rows of
one block, or of half a block, replaced; what all stores together leave there. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## A family of parts -/

section Parts
variable (c : Dev nD) {sp : Space} {s : Shape} {e : EltTy} (m : Memref sig .tc sp s e) {T : Type} [Fintype T] [DecidableEq T]
  (r : T → Rect s) (hr : ∀ t a, (r t).stride a = 1) (cls : s.Idx → T) (hc : ∀ i t, i ∈ (r t).set ↔ cls i = t)
include hc

omit [Fintype T] in
theorem parts_disjoint (t t' : T) (h : t ≠ t') : Disjoint (r t).set (r t').set :=
  Finset.disjoint_left.mpr fun i h₁ h₂ => h (((hc i t).mp h₁).symm.trans ((hc i t').mp h₂))
theorem parts_cover : (Finset.univ : Finset T).biUnion (fun t => (r t).set) = Finset.univ :=
  Finset.eq_univ_iff_forall.mpr fun i => Finset.mem_biUnion.mpr ⟨cls i, Finset.mem_univ _, (hc i (cls i)).mpr rfl⟩

/-- The whole at contents `X` from the parts of `X`. -/
theorem join_parts (q : PosShare TreeShare) (X : s.Idx → Elt F e) :
    bigSep Finset.univ (fun t => owns (c : Thread nD τ) (m.slice (r t) (hr t)) q (fun j => X ((r t).emb j))) ⊢ (owns (c : Thread nD τ) m q X : sProp 𝕄) :=
  haveI : ∀ e, Nonempty (Elt F e) := Elt.nonempty F
  owns_of_rects (c : Thread nD τ) m q r hr (parts_disjoint r cls hc) (parts_cover r cls hc) X

/-- One vector out of one for each part. -/
noncomputable def glue (Z : ∀ t, (r t).shape.Idx → Elt F e) (i : s.Idx) : Elt F e :=
  Z (cls i) ((r (cls i)).exists_idx_of_mem ((hc i (cls i)).mpr rfl)).choose

omit [Fintype T] in
theorem glue_at (Z : ∀ t, (r t).shape.Idx → Elt F e) (t : T) (j : (r t).shape.Idx) : glue r cls hc Z ((r t).emb j) = Z t j := by
  have key : ∀ (i : s.Idx) (t : T) (h : cls i = t) (j : (r t).shape.Idx), (r t).emb j = i → glue r cls hc Z i = Z t j := by
    intro i t h j hj
    subst h
    unfold glue
    have hs := ((r (cls i)).exists_idx_of_mem ((hc i (cls i)).mpr rfl)).choose_spec
    exact congrArg (Z (cls i)) ((r (cls i)).emb.injective (hs.trans hj.symm))
  exact key _ t ((hc _ t).mp ((r t).idx_mem j)) j rfl

/-- The whole at some contents from the parts at some contents, and back. -/
theorem join_any :
    bigSep Finset.univ (fun t => iprop(∃ Z, owns (c : Thread nD τ) (m.slice (r t) (hr t)) fullShare Z)) ⊢ (iprop(∃ X, owns (c : Thread nD τ) m fullShare X) : sProp 𝕄) := by
  haveI : ∀ e, Nonempty (Elt F e) := Elt.nonempty F
  iintro H
  ihave H := (BI.bigSep_exists_pi Finset.univ fun t Z => (owns (c : Thread nD τ) (m.slice (r t) (hr t)) fullShare Z : sProp 𝕄)) $$ H
  icases H with ⟨%Z, H⟩
  iexists glue r cls hc Z
  have hj := join_parts (F := F) c m r hr cls hc fullShare (glue r cls hc Z)
  have hz : (fun t => (owns (c : Thread nD τ) (m.slice (r t) (hr t)) fullShare (fun j => glue r cls hc Z ((r t).emb j)) : sProp 𝕄))
      = fun t => owns (c : Thread nD τ) (m.slice (r t) (hr t)) fullShare (Z t) :=
    funext fun t => congrArg (owns (c : Thread nD τ) (m.slice (r t) (hr t)) fullShare) (funext fun j => glue_at r cls hc Z t j)
  rw [hz] at hj
  iapply hj
  iexact H
theorem split_any :
    (iprop(∃ X, owns (c : Thread nD τ) m fullShare X) : sProp 𝕄) ⊢ bigSep Finset.univ (fun t => iprop(∃ Z, owns (c : Thread nD τ) (m.slice (r t) (hr t)) fullShare Z)) := by
  iintro ⟨%X, H⟩
  ihave H := (owns_rects (c : Thread nD τ) m fullShare r hr (parts_disjoint r cls hc) (parts_cover r cls hc) X) $$ H
  have hmono : bigSep Finset.univ (fun t => (owns (c : Thread nD τ) (m.slice (r t) (hr t)) fullShare (fun j => X ((r t).emb j)) : sProp 𝕄))
      ⊢ bigSep Finset.univ (fun t => iprop(∃ Z, owns (c : Thread nD τ) (m.slice (r t) (hr t)) fullShare Z)) :=
    bigSep_mono fun t _ =>
      show (owns (c : Thread nD τ) (m.slice (r t) (hr t)) fullShare (fun j => X ((r t).emb j)) : sProp 𝕄) ⊢ iprop(∃ Z, owns (c : Thread nD τ) (m.slice (r t) (hr t)) fullShare Z) by
        iintro H
        iexists _
        iexact H
  iapply hmono
  iexact H
theorem any_parts :
    (iprop(∃ X, owns (c : Thread nD τ) m fullShare X) : sProp 𝕄) = bigSep Finset.univ (fun t => iprop(∃ Z, owns (c : Thread nD τ) (m.slice (r t) (hr t)) fullShare Z)) :=
  BI.equiv_iff.mp ⟨split_any c m r hr cls hc, join_any c m r hr cls hc⟩

end Parts

/-- A slot along the first axis is inside. -/
theorem slot_inb {n a b : ℕ} (t : Fin n) (x : Fin 3) : (![t.val, 0, 0] : Fin 3 → ℕ) x + (![1, a, b] : Fin 3 → ℕ) x ≤ (⟨3, ![n, a, b]⟩ : Shape).size x := by
  match x with
  | 0 => show t.val + 1 ≤ n; omega
  | 1 => show 0 + a ≤ a; omega
  | 2 => show 0 + b ≤ b; omega
theorem ag_inb (p : Fin 4 × Fin 2) (x : Fin 3) : (![p.1.val, 128 * p.2.val, 0] : Fin 3 → ℕ) x + S1x128x1024.size x ≤ S4x256x1024.size x := by
  match x with
  | 0 => show p.1.val + 1 ≤ 4; omega
  | 1 => show 128 * p.2.val + 128 ≤ 256; omega
  | 2 => show 0 + 1024 ≤ 1024; omega

/-- The slots along the first axis: which one an index lies in. -/
theorem slot_mem {n a b : ℕ} (inb : ∀ t : Fin n, ∀ x, (![t.val, 0, 0] : Fin 3 → ℕ) x + (![1, a, b] : Fin 3 → ℕ) x ≤ (⟨3, ![n, a, b]⟩ : Shape).size x)
    (i : (⟨3, ![n, a, b]⟩ : Shape).Idx) (t : Fin n) : i ∈ (Rect.unit (s := ⟨3, ![n, a, b]⟩) ![t.val, 0, 0] ![1, a, b] (inb t)).set ↔ (i 0 : Fin n) = t := by
  rw [LoadRect.mem_set]
  constructor
  · intro h
    obtain ⟨j, hj, hi⟩ := h 0
    have hj : j < 1 := hj
    have hi : (i 0).val = t.val + 1 * j := hi
    exact Fin.ext (by show (i 0).val = t.val; omega)
  · rintro rfl x
    match x with
    | ⟨0, _⟩ => exact ⟨0, Nat.one_pos, by show (i 0).val = (i 0).val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

/-- The half of which slot an index of the buffer of finished blocks lies in. -/
def agCls (i : S4x256x1024.Idx) : Fin 4 × Fin 2 := ((i 0 : Fin 4), ⟨(i 1).val / 128, by have : (i 1).val < 256 := (i 1).isLt; omega⟩)

theorem ag_mem (inb : ∀ p : Fin 4 × Fin 2, ∀ x, (![p.1.val, 128 * p.2.val, 0] : Fin 3 → ℕ) x + S1x128x1024.size x ≤ S4x256x1024.size x) (i : S4x256x1024.Idx) (p : Fin 4 × Fin 2) :
    i ∈ (Rect.unit (s := S4x256x1024) ![p.1.val, 128 * p.2.val, 0] S1x128x1024.size (inb p)).set ↔ agCls i = p := by
  have h1 : (i 1).val < 256 := (i 1).isLt
  rw [LoadRect.mem_set]
  constructor
  · intro h
    obtain ⟨j, hj, hi⟩ := h 0
    obtain ⟨k, hk, hi'⟩ := h 1
    have hj : j < 1 := hj
    have hi : (i 0).val = p.1.val + 1 * j := hi
    have hk : k < 128 := hk
    have hi' : (i 1).val = 128 * p.2.val + 1 * k := hi'
    exact Prod.ext (Fin.ext (by show (i 0).val = p.1.val; omega)) (Fin.ext (by show (i 1).val / 128 = p.2.val; omega))
  · rintro rfl x
    match x with
    | ⟨0, _⟩ => exact ⟨0, Nat.one_pos, by show (i 0).val = (i 0).val + 1 * 0; omega⟩
    | ⟨1, _⟩ => exact ⟨(i 1).val % 128, Nat.mod_lt _ (by decide), by show (i 1).val = 128 * ((i 1).val / 128) + 1 * ((i 1).val % 128); omega⟩
    | ⟨2, _⟩ => exact ⟨(i 2).val, (i 2).isLt, by show (i 2).val = 0 + 1 * (i 2).val; omega⟩

section Places
variable (c : Dev nD)

/-- The buffers as their slots. -/
theorem kH_parts : (iprop(∃ X, owns (c : Thread nD τ) (Memref.whole cc0_scratch3) fullShare X) : sProp 𝕄) = bigSep Finset.univ fun i : Fin 8 => iprop(∃ Z, owns (c : Thread nD τ) (kH i) fullShare Z) :=
  any_parts c (Memref.whole cc0_scratch3) (fun i : Fin 8 => Rect.unit (s := S8x1024x128) ![i.val, 0, 0] S1x1024x128.size (slot_inb i)) (fun _ _ => rfl) (fun i => i 0) (slot_mem slot_inb)
theorem vH_parts : (iprop(∃ X, owns (c : Thread nD τ) (Memref.whole cc0_scratch4) fullShare X) : sProp 𝕄) = bigSep Finset.univ fun i : Fin 8 => iprop(∃ Z, owns (c : Thread nD τ) (vH i) fullShare Z) :=
  any_parts c (Memref.whole cc0_scratch4) (fun i : Fin 8 => Rect.unit (s := S8x1024x128) ![i.val, 0, 0] S1x1024x128.size (slot_inb i)) (fun _ _ => rfl) (fun i => i 0) (slot_mem slot_inb)
theorem kB_parts : (iprop(∃ X, owns (c : Thread nD τ) (Memref.whole cc0_scratch5) fullShare X) : sProp 𝕄) = bigSep Finset.univ fun i : Fin 2 => iprop(∃ Z, owns (c : Thread nD τ) (kB i) fullShare Z) :=
  any_parts c (Memref.whole cc0_scratch5) (fun i : Fin 2 => Rect.unit (s := S2x1024x128) ![i.val, 0, 0] S1x1024x128.size (slot_inb i)) (fun _ _ => rfl) (fun i => i 0) (slot_mem slot_inb)
theorem vA_parts : (iprop(∃ X, owns (c : Thread nD τ) (Memref.whole cc0_scratch6) fullShare X) : sProp 𝕄) = bigSep Finset.univ fun i : Fin 2 => iprop(∃ Z, owns (c : Thread nD τ) (vA i) fullShare Z) :=
  any_parts c (Memref.whole cc0_scratch6) (fun i : Fin 2 => Rect.unit (s := S2x1024x256) ![i.val, 0, 0] S1x1024x256.size (slot_inb i)) (fun _ _ => rfl) (fun i => i 0) (slot_mem slot_inb)
theorem rsOut_parts : (iprop(∃ X, owns (c : Thread nD τ) (Memref.whole cc0_scratch9) fullShare X) : sProp 𝕄) = bigSep Finset.univ fun i : Fin 3 => any c (rsOut i) :=
  any_parts c (Memref.whole cc0_scratch9) (fun i : Fin 3 => Rect.unit (s := S3x256x1024) ![i.val, 0, 0] S1x256x1024.size (slot_inb i)) (fun _ _ => rfl) (fun i => i 0) (slot_mem slot_inb)
theorem rsBuf_parts : (iprop(∃ X, owns (c : Thread nD τ) (Memref.whole cc0_scratch10) fullShare X) : sProp 𝕄) = bigSep Finset.univ fun i : Fin 3 => any c (rsBuf i) :=
  any_parts c (Memref.whole cc0_scratch10) (fun i : Fin 3 => Rect.unit (s := S3x256x1024) ![i.val, 0, 0] S1x256x1024.size (slot_inb i)) (fun _ _ => rfl) (fun i => i 0) (slot_mem slot_inb)
theorem agH_parts : (iprop(∃ X, owns (c : Thread nD τ) (Memref.whole cc0_scratch11) fullShare X) : sProp 𝕄) = bigSep Finset.univ fun p : Fin 4 × Fin 2 => any c (agH p.1 p.2) :=
  any_parts c (Memref.whole cc0_scratch11) (fun p : Fin 4 × Fin 2 => Rect.unit (s := S4x256x1024) ![p.1.val, 128 * p.2.val, 0] S1x128x1024.size (ag_inb p)) (fun _ _ => rfl) agCls (ag_mem ag_inb)

/-- The buffer of finished blocks out of its halves. -/
def agC (P : Fin 4 → Fin 2 → Vec F S1x128x1024 .bf16) : Vec F S4x256x1024 .bf16 := fun i =>
  P (i 0) ⟨(i 1).val / 128, by have : (i 1).val < 256 := (i 1).isLt; omega⟩ (ix3 0 ⟨(i 1).val % 128, Nat.mod_lt _ (by decide)⟩ (i 2))

theorem agC_half (P : Fin 4 → Fin 2 → Vec F S1x128x1024 .bf16) (s : Fin 4) (h : Fin 2) (i) (j : S1x128x1024.Idx) :
    agC P ((Rect.unit (s := S4x256x1024) ![s.val, 128 * h.val, 0] S1x128x1024.size i).emb j) = P s h j := by
  have h0 : (j 0).val < 1 := (j 0).isLt
  have h1 : (j 1).val < 128 := (j 1).isLt
  unfold agC
  have e1 : ((Rect.unit (s := S4x256x1024) ![s.val, 128 * h.val, 0] S1x128x1024.size i).emb j 0 : Fin 4) = s :=
    Fin.ext (by show s.val + 1 * (j 0).val = s.val; omega)
  have e2 : (⟨((Rect.unit (s := S4x256x1024) ![s.val, 128 * h.val, 0] S1x128x1024.size i).emb j 1).val / 128, by
      show (128 * h.val + 1 * (j 1).val) / 128 < 2; omega⟩ : Fin 2) = h :=
    Fin.ext (by show (128 * h.val + 1 * (j 1).val) / 128 = h.val; omega)
  rw [e1, e2]
  refine congrArg (P s h) (funext fun a => Fin.ext ?_)
  match a with
  | ⟨0, _⟩ => show 0 = (j 0).val; omega
  | ⟨1, _⟩ => show (128 * h.val + 1 * (j 1).val) % 128 = (j 1).val; omega
  | ⟨2, _⟩ => show 0 + 1 * (j 2).val = (j 2).val; omega

theorem agC_slot (P : Fin 4 → Fin 2 → Vec F S1x128x1024 .bf16) (s : Fin 4) (i) (j : S1x256x1024.Idx) :
    agC P ((Rect.unit (s := S4x256x1024) ![s.val, 0, 0] S1x256x1024.size i).emb j) = slotOf (P s) j := by
  have h0 : (j 0).val < 1 := (j 0).isLt
  have h1 : (j 1).val < 256 := (j 1).isLt
  unfold agC slotOf
  have e1 : ((Rect.unit (s := S4x256x1024) ![s.val, 0, 0] S1x256x1024.size i).emb j 0 : Fin 4) = s :=
    Fin.ext (by show s.val + 1 * (j 0).val = s.val; omega)
  have e2 : (⟨((Rect.unit (s := S4x256x1024) ![s.val, 0, 0] S1x256x1024.size i).emb j 1).val / 128, by
      show (0 + 1 * (j 1).val) / 128 < 2; omega⟩ : Fin 2) = ⟨(j 1).val / 128, by omega⟩ :=
    Fin.ext (by show (0 + 1 * (j 1).val) / 128 = (j 1).val / 128; omega)
  rw [e1, e2]
  refine congrArg (P s _) (funext fun a => Fin.ext ?_)
  match a with
  | ⟨0, _⟩ => rfl
  | ⟨1, _⟩ => show (0 + 1 * (j 1).val) % 128 = (j 1).val % 128; omega
  | ⟨2, _⟩ => show 0 + 1 * (j 2).val = (j 2).val; omega

theorem ag_join (P : Fin 4 → Fin 2 → Vec F S1x128x1024 .bf16) :
    bigSep Finset.univ (fun p : Fin 4 × Fin 2 => owns (c : Thread nD τ) (agH p.1 p.2) fullShare (P p.1 p.2)) ⊢ (owns (c : Thread nD τ) (Memref.whole cc0_scratch11) fullShare (agC P) : sProp 𝕄) := by
  have hj := join_parts (F := F) c (Memref.whole cc0_scratch11) (fun p : Fin 4 × Fin 2 => Rect.unit (s := S4x256x1024) ![p.1.val, 128 * p.2.val, 0] S1x128x1024.size (ag_inb p)) (fun _ _ => rfl) agCls (ag_mem ag_inb)
    fullShare (agC P)
  refine (Entails.of_eq ?_).trans hj
  exact congrArg (bigSep Finset.univ) (funext fun p => congrArg (owns (c : Thread nD τ) (agH p.1 p.2) fullShare) (funext fun j => (agC_half P p.1 p.2 _ j).symm))

end Places

/-! ## The result's buffer -/

section Rows
/-- The batch block a row belongs to. -/
def blk (i : S1024x1024.Idx) : Fin 4 := ⟨(i 0).val / 256, by have : (i 0).val < 1024 := (i 0).isLt; omega⟩
/-- The half of its block. -/
def hof (i : S1024x1024.Idx) : Fin 2 := ⟨(i 0).val % 256 / 128, by omega⟩

variable (X : Vec F S1024x1024 .f32) (b : Fin 4)

/-- The rows of a block replaced, and those of half a block. -/
def upd (w : Vec F S256x1024 .f32) : Vec F S1024x1024 .f32 := fun i =>
  if blk i = b then w (ix2 ⟨(i 0).val % 256, Nat.mod_lt _ (by decide)⟩ (i 1)) else X i
def updH (h : Fin 2) (w : Vec F S128x1024 .f32) : Vec F S1024x1024 .f32 := fun i =>
  if blk i = b ∧ hof i = h then w (ix2 ⟨(i 0).val % 256 % 128, Nat.mod_lt _ (by decide)⟩ (i 1)) else X i

theorem overlay_rows {o : Fin 2 → ℕ} {io} (ho : o = ![256 * b.val, 0]) (w : Vec F S256x1024 .f32) :
    (Rect.unit (s := S1024x1024) o ![256, 1024] io).overlay X w = upd X b w := by
  subst ho
  refine funext fun i => ?_
  have h0 : (i 0).val < 1024 := (i 0).isLt
  unfold upd
  by_cases h : blk i = b
  · have hv : (i 0).val / 256 = b.val := congrArg Fin.val h
    have e : i = (Rect.unit (s := S1024x1024) ![256 * b.val, 0] ![256, 1024] io).emb (ix2 ⟨(i 0).val % 256, Nat.mod_lt _ (by decide)⟩ (i 1)) :=
      funext fun a => Fin.ext (by
        match a with
        | ⟨0, _⟩ => show (i 0).val = 256 * b.val + 1 * ((i 0).val % 256); omega
        | ⟨1, _⟩ => show (i 1).val = 0 + 1 * (i 1).val; omega)
    rw [if_pos h]
    exact (congrArg _ e).trans (Rect.overlay_emb _ _ _ _)
  · rw [if_neg h]
    refine Rect.overlay_of_not_mem _ _ _ fun hm => h ?_
    obtain ⟨j, hj⟩ := LoadRect.exists_idx_of_mem _ hm
    have h1 : 256 * b.val + 1 * (j 0).val = (i 0).val := congrArg (fun x : S1024x1024.Idx => (x 0).val) hj
    have h2 : (j 0).val < 256 := (j 0).isLt
    exact Fin.ext (by show (i 0).val / 256 = b.val; omega)

theorem overlay_half {o : Fin 2 → ℕ} {io} (h : Fin 2) (ho : o = ![256 * b.val + 128 * h.val, 0]) (w w' : Vec F S128x1024 .f32) :
    (Rect.unit (s := S1024x1024) o ![128, 1024] io).overlay ((Rect.unit (s := S1024x1024) o ![128, 1024] io).overlay X w') w = updH X b h w := by
  subst ho
  refine funext fun i => ?_
  have h0 : (i 0).val < 1024 := (i 0).isLt
  unfold updH
  by_cases hb : blk i = b ∧ hof i = h
  · have hv : (i 0).val / 256 = b.val := congrArg Fin.val hb.1
    have hv' : (i 0).val % 256 / 128 = h.val := congrArg Fin.val hb.2
    have e : i = (Rect.unit (s := S1024x1024) ![256 * b.val + 128 * h.val, 0] ![128, 1024] io).emb (ix2 ⟨(i 0).val % 256 % 128, Nat.mod_lt _ (by decide)⟩ (i 1)) :=
      funext fun a => Fin.ext (by
        match a with
        | ⟨0, _⟩ => show (i 0).val = 256 * b.val + 128 * h.val + 1 * ((i 0).val % 256 % 128); omega
        | ⟨1, _⟩ => show (i 1).val = 0 + 1 * (i 1).val; omega)
    rw [if_pos hb]
    exact (congrArg _ e).trans (Rect.overlay_emb _ _ _ _)
  · rw [if_neg hb]
    have hn : i ∉ (Rect.unit (s := S1024x1024) ![256 * b.val + 128 * h.val, 0] ![128, 1024] io).set := fun hm => hb (by
      obtain ⟨j, hj⟩ := LoadRect.exists_idx_of_mem _ hm
      have h1 : 256 * b.val + 128 * h.val + 1 * (j 0).val = (i 0).val := congrArg (fun x : S1024x1024.Idx => (x 0).val) hj
      have h2 : (j 0).val < 128 := (j 0).isLt
      exact ⟨Fin.ext (by show (i 0).val / 256 = b.val; omega), Fin.ext (by show (i 0).val % 256 / 128 = h.val; omega)⟩)
    rw [Rect.overlay_of_not_mem _ _ _ hn, Rect.overlay_of_not_mem _ _ _ hn]

theorem upd_emb {o : Fin 2 → ℕ} {io} (ho : o = ![256 * b.val, 0]) (w : Vec F S256x1024 .f32) (j : S256x1024.Idx) :
    upd X b w ((Rect.unit (s := S1024x1024) o ![256, 1024] io).emb j) = w j := by
  rw [← overlay_rows X b (io := io) ho w]
  exact Rect.overlay_emb _ _ _ _

variable (I : Dev nD → Ins F) (c : Dev nD)

/-- All the stores into the result's buffer leave the result. -/
theorem out_eq (p0 p1 p2 : Vec F S256x1024 .f32) :
    upd (upd (upd (updH (updH (upd (upd (upd X c p0) (sh 3 c) p1) (sh 2 c) p2) (sh 1 c) 0 (fin I c 0)) (sh 1 c) 1 (fin I c 1))
      c (k0_pay60 (slotOf (AG I (sh 3 c))))) (sh 2 c) (k0_pay60 (slotOf (AG I (sh 1 c))))) (sh 3 c) (k0_pay60 (slotOf (AG I (sh 2 c)))) = OUT I c := by
  refine funext fun i => ?_
  have h0 : (i 0).val < 1024 := (i 0).isLt
  have hblk : ∀ b c : Fin 4, b = c ∨ b = sh 1 c ∨ b = sh 2 c ∨ b = sh 3 c := by decide
  have n21 : ∀ c : Fin 4, sh 2 c ≠ sh 3 c := by decide
  have n10 : ∀ c : Fin 4, sh 1 c ≠ c := by decide
  have n12 : ∀ c : Fin 4, sh 1 c ≠ sh 2 c := by decide
  have n13 : ∀ c : Fin 4, sh 1 c ≠ sh 3 c := by decide
  have n02 : ∀ c : Fin 4, c ≠ sh 2 c := by decide
  have n03 : ∀ c : Fin 4, c ≠ sh 3 c := by decide
  show _ = outRows I c (blk i) (ix2 ⟨(i 0).val % 256, Nat.mod_lt _ (by decide)⟩ (i 1))
  unfold upd
  rcases hblk (blk i) c with h | h | h | h
  · rw [h, if_neg (n03 c), if_neg (n02 c), if_pos rfl]
    unfold outRows
    rw [if_neg (n10 c).symm]
  · rw [h, if_neg (n13 c), if_neg (n12 c), if_neg (n10 c)]
    unfold outRows updH
    rw [if_pos rfl]
    have hh : ∀ a : Fin 2, a = 0 ∨ a = 1 := by decide
    have e : (⟨(i 0).val % 256 / 128, by omega⟩ : Fin 2) = hof i := rfl
    rcases hh (hof i) with h' | h'
    · rw [h, h', if_neg (fun hn => absurd hn.2 (by decide)), if_pos ⟨rfl, rfl⟩]
      exact congrFun (congrArg (fin I c) (h'.symm.trans e.symm)) _
    · rw [h, h', if_pos ⟨rfl, rfl⟩]
      exact congrFun (congrArg (fin I c) (h'.symm.trans e.symm)) _
  · rw [h, if_neg (n21 c), if_pos rfl]
    unfold outRows
    rw [if_neg (n12 c).symm, sh_sh]
    rw [show sh (2 + 3) c = sh 1 c from Fin.ext (by show (c.val + (2 + 3)) % 4 = (c.val + 1) % 4; omega)]
  · rw [h, if_pos rfl]
    unfold outRows
    rw [if_neg (n13 c).symm, sh_sh]
    rw [show sh (3 + 3) c = sh 2 c from Fin.ext (by show (c.val + (3 + 3)) % 4 = (c.val + 2) % 4; omega)]

end Rows
end Cert.KernelIdeal.Pf
-- ==== Proof.Body.lean ====
module

public import proofs.«01_k».proof.Proof.Places

/-! # The body

One run of the body on a device `c`, from what the launch hands it to what it gives back. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Run
variable (I : Dev nD → Ins F) (K : Dev nD × Cell → ℕ) (c : Dev nD)

/-- The staged `x`, `Wq`, `Wo`, and the result's staging place. -/
abbrev xM : Memref sig .tc .vmem S4x256x1024 .f32 := Memref.whole cc0_stg0_0
abbrev qM : Memref sig .tc .vmem S1024x1024 .f32 := Memref.whole cc0_stg1_0
abbrev oM : Memref sig .tc .vmem S1024x1024 .f32 := Memref.whole cc0_stg2_0
abbrev yM : Memref sig .tc .vmem S1024x1024 .f32 := Memref.whole cc0_stg3_0

/-- The places of one head not yet fetched, with its semaphores at zero. -/
def hs (b : Fin 4) (r : Fin 2) : sProp 𝕄 :=
  iprop((∃ X, owns (c : Thread nD τ) (kH (slot b r)) fullShare X) ∗ (∃ X, owns (c : Thread nD τ) (vH (slot b r)) fullShare X)
    ∗ semVal ((c : Thread nD τ), .dma (kS b r)) 0 ∗ semVal ((c : Thread nD τ), .dma (vS b r)) 0)
def hsB (b : Fin 4) : sProp 𝕄 := iprop(hs c b 0 ∗ hs c b 1)
/-- The copies of a batch block's two heads under way. -/
def flB (A : Ins F) (b : Fin 4) : sProp 𝕄 := iprop((kFl c A b 0 ∗ vFl c A b 0) ∗ kFl c A b 1 ∗ vFl c A b 1)

/-- The four batch blocks in their order, and in the order they are computed in on device `c`. -/
theorem blocks (P : Fin 4 → sProp 𝕄) : bigSep Finset.univ P = iprop(P 0 ∗ P 1 ∗ P 2 ∗ P 3) := by
  have := bigSep_univ_eq_bigSepL (M := 𝕄) [0, 1, 2, 3] (by decide) (by decide) P
  rw [this]
  simp only [bigSepL_cons_cons, bigSepL_singleton]; rfl
theorem blocksAt (P : Fin 4 → sProp 𝕄) : bigSep Finset.univ P = iprop(P c ∗ P (sh 3 c) ∗ P (sh 2 c) ∗ P (sh 1 c)) := by
  have := bigSep_univ_eq_bigSepL (M := 𝕄) [c, sh 3 c, sh 2 c, sh 1 c] (by revert c; decide) (by revert c; decide) P
  rw [this]
  simp only [bigSepL_cons_cons, bigSepL_singleton]; rfl
/-- The nine copies one by one. -/
theorem copies (P : Fin 9 → sProp 𝕄) : bigSep Finset.univ P = iprop(P 0 ∗ P 1 ∗ P 2 ∗ P 3 ∗ P 4 ∗ P 5 ∗ P 6 ∗ P 7 ∗ P 8) := by
  have := bigSep_univ_eq_bigSepL (M := 𝕄) [0, 1, 2, 3, 4, 5, 6, 7, 8] (by decide) (by decide) P
  rw [this]
  simp only [bigSepL_cons_cons, bigSepL_singleton]; rfl

/-- The tokens and credit of the barrier, and the places this device hands to the others through it. -/
def barB : sProp 𝕄 :=
  iprop((cred (tallyAt (barCell c) () 3) ∗ atPos ER (barCell c) 0 ∅ 0)
    ∗ (dutyTok ER (barCell (sh 3 c)) 0 0 ∗ barPay (sh 3 c) 0) ∗ (dutyTok ER (barCell (sh 1 c)) 0 1 ∗ barPay (sh 1 c) 1)
    ∗ (dutyTok ER (barCell (sh 2 c)) 0 2 ∗ barPay (sh 2 c) 2))
/-- The arguments, staged and in place. -/
def argsB (A : Ins F) (q : PosShare TreeShare) : sProp 𝕄 :=
  iprop((owns (c : Thread nD τ) kA q A.kk ∗ owns (c : Thread nD τ) vAr q A.vv)
    ∗ owns (c : Thread nD τ) xM fullShare A.x ∗ owns (c : Thread nD τ) qM fullShare A.wq ∗ owns (c : Thread nD τ) oM fullShare A.wo)
/-- The buffers only this device uses, at any contents. -/
def bufB : sProp 𝕄 :=
  iprop((∃ X, owns (c : Thread nD τ) xB fullShare X) ∗ (∃ X, owns (c : Thread nD τ) wqB fullShare X) ∗ (∃ X, owns (c : Thread nD τ) woB fullShare X)
    ∗ (∃ X, owns (c : Thread nD τ) qB fullShare X) ∗ (∃ X, owns (c : Thread nD τ) aB fullShare X)
    ∗ (∃ X, owns (c : Thread nD τ) (kB 0) fullShare X) ∗ (∃ X, owns (c : Thread nD τ) (vA 0) fullShare X)
    ∗ (∃ X, owns (c : Thread nD τ) (kB 1) fullShare X) ∗ (∃ X, owns (c : Thread nD τ) (vA 1) fullShare X)
    ∗ any c (rsOut 0) ∗ any c (rsOut 1) ∗ any c (rsOut 2))

/-- What the body runs on. -/
def bodyPre : sProp 𝕄 :=
  iprop(recs I K ∗ levAts L lv ∗ (∃ W, owes (c : Thread nD τ) (O₀ c) W) ∗ barB c
    ∗ bigSep Finset.univ (fr c) ∗ bigSep Finset.univ (rv c) ∗ bigSep Finset.univ (hsB c)
    ∗ argsB c (I c) fullShare ∗ (∃ Y, owns (c : Thread nD τ) yM fullShare Y) ∗ bufB c ∗ any c (agH 0 0) ∗ any c (agH 0 1))

variable {α : Type} {Q : α → sProp (MT nD τ sig Unit (Elt F) ℕ UU ℕ)}

/-- The semaphore at a row and column of the heads' semaphores. -/
theorem hS_at {o : Fin 2 → ℕ} {ib} (b j : Fin 4) (ho : o = ![b.val, j.val]) :
    ((SemArray.slice cc0_scratch12 (Rect.unit (s := S4x4) o S1x1.size ib)).squeeze S_ squeezes_S1x1_S_).sem = ds ⟨4 + 4 * b.val + j.val, by omega⟩ := by
  subst ho
  let x : S1x1.Idx := Shape.reshapeEquiv squeezes_S1x1_S_.numel_eq fun i => i.elim0
  have h0 : (x 0).val < 1 := (x 0).isLt
  have h1 : (x 1).val < 1 := (x 1).isLt
  refine Fin.ext ?_
  show 4 + (Shape.rowMajor S4x4 ((Rect.unit (s := S4x4) ![b.val, j.val] S1x1.size ib).emb x)).val = 4 + 4 * b.val + j.val
  set_option backward.isDefEq.respectTransparency false in rw [Shape.rowMajor_val_two]
  show 4 + ((b.val + 1 * (x 0).val) * 4 + (j.val + 1 * (x 1).val)) = 4 + 4 * b.val + j.val
  omega
theorem kS_at {o : Fin 2 → ℕ} {ib} (b : Fin 4) (r : Fin 2) (ho : o = ![b.val, r.val]) :
    ((SemArray.slice cc0_scratch12 (Rect.unit (s := S4x4) o S1x1.size ib)).squeeze S_ squeezes_S1x1_S_).sem = kS b r := hS_at b ⟨r.val, by omega⟩ ho
theorem vS_at {o : Fin 2 → ℕ} {ib} (b : Fin 4) (r : Fin 2) (ho : o = ![b.val, 2 + r.val]) :
    ((SemArray.slice cc0_scratch12 (Rect.unit (s := S4x4) o S1x1.size ib)).squeeze S_ squeezes_S1x1_S_).sem = vS b r :=
  (hS_at b ⟨2 + r.val, by omega⟩ ho).trans (Fin.ext (by show 4 + 4 * b.val + (2 + r.val) = 6 + 4 * b.val + r.val; omega))

omit [FloatOps F] in
/-- A wait for a head may happen with any of the copies still owed. -/
theorem mayWait_h (n : ℕ) (hn : n ≤ 9) (sm : DmaSem sig) (h : lvS (.dma sm) = 0) :
    (levAts L lv : sProp 𝕄) ⊢ MayWait (c : Thread nD τ) (.dma sm) () (Ow c n) :=
  mayWait_Ow c (.dma sm) n hn fun t _ => by have := lvS_r t; omega
theorem lvS_k (b : Fin 4) (r : Fin 2) : lvS (.dma (kS b r)) = 0 := by revert b r; decide
theorem lvS_v (b : Fin 4) (r : Fin 2) : lvS (.dma (vS b r)) = 0 := by revert b r; decide

/-- What a copy credits depends on its shape only. -/
theorem cred₀ (w : Memref sig .tc .vmem S1024x128 .f32) : w.view.dmaCredit = N₀ := rfl
theorem cred₁ (w : Memref sig .tc .vmem S256x1024 .bf16) : w.view.dmaCredit = N₁ := rfl
theorem cred₂ (w : Memref sig .tc .vmem S128x1024 .bf16) : w.view.dmaCredit = N₂ := rfl

/-- Both heads of a batch block arrive and are rounded. -/
theorem kv2 (A : Ins F) (b : Fin 4) (n : ℕ) {s1 s3 s5 s7 : Shape} {sp1 sp3 sp5 sp7 : Space} {e1 e3 e5 e7 : EltTy}
    {sm0 sm0' sm1 sm1' : DmaSem sig} {w1 : Memref sig .tc sp1 s1 e1} {w2 : Memref sig .tc .vmem S1024x128 .f32} {w3 : Memref sig .tc sp3 s3 e3} {w4 : Memref sig .tc .vmem S1024x128 .f32}
    {w5 : Memref sig .tc sp5 s5 e5} {w6 : Memref sig .tc .vmem S1024x128 .f32} {w7 : Memref sig .tc sp7 s7 e7} {w8 : Memref sig .tc .vmem S1024x128 .f32}
    {hw1 : w1.view.WordExact} {hw2 : w2.view.WordExact} {hw3 : w3.view.WordExact} {hw4 : w4.view.WordExact}
    {hw5 : w5.view.WordExact} {hw6 : w6.view.WordExact} {hw7 : w7.view.WordExact} {hw8 : w8.view.WordExact}
    {o0 o0' o1 o1' : Fin 3 → ℕ} {i1 i2 i3 i4 i3' i4' j1 j2 j3 j4 j3' j4'} {hl1 hl2 hl3 hl4 hx3 hx4 hm3 hm4 gl1 gl2 gl3 gl4 gx3 gx4 gm3 gm4}
    {pk pv pk' pv' : Vec F S1x1024x128 .f32 → Vec F S1x1024x128 .bf16} {k : PUnit → Prog (TpuEff nD τ sig (Elt F) Λ₀ .tc) α}
    (hs0 : sm0 = kS b 0) (hs0' : sm0' = vS b 0) (hs1 : sm1 = kS b 1) (hs1' : sm1' = vS b 1)
    (ho0 : o0 = ![(slot b 0).val, 0, 0]) (ho0' : o0' = ![(slot b 0).val, 0, 0]) (ho1 : o1 = ![(slot b 1).val, 0, 0]) (ho1' : o1' = ![(slot b 1).val, 0, 0])
    (hpk : pk = k0_pay12 ∧ pk' = k0_pay12) (hpv : pv = k0_pay13 ∧ pv' = k0_pay13) (hn : n ≤ 9) :
    iprop(levAts L lv ∗ flB c A b ∗ ((∃ X, owns (c : Thread nD τ) (kB 0) fullShare X) ∗ wide c 0 ∗ (∃ X, owns (c : Thread nD τ) (kB 1) fullShare X) ∗ wide c 1) ∗ (∃ W, owes (c : Thread nD τ) (Ow c n) W))
      ⊢ iprop((iprop(hsB c b ∗ (owns (c : Thread nD τ) (kB 0) fullShare (kb A c b 0) ∗ owns (c : Thread nD τ) (vA 0) fullShare (vb A c b 0)
            ∗ owns (c : Thread nD τ) (kB 1) fullShare (kb A c b 1) ∗ owns (c : Thread nD τ) (vA 1) fullShare (vb A c b 1)) ∗ (∃ W, owes (c : Thread nD τ) (Ow c n) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm0 w1 w2 hw1 hw2) fun _ => .op (.waitDma2 sm0' w3 w4 hw3 hw4) fun _ =>
            .op (.load (Memref.whole cc0_scratch3) (Rect.unit (s := S8x1024x128) o0 S1x1024x128.size i1).toLoadRect hl1) fun v =>
            .op (.load (Memref.whole cc0_scratch5) (Rect.unit (s := S2x1024x128) ![0, 0, 0] S1x1024x128.size i3).toLoadRect hl3) fun _ =>
            .op (.store (Memref.whole cc0_scratch5) (Rect.unit (s := S2x1024x128) ![0, 0, 0] S1x1024x128.size i3') (pk v) Finset.univ hx3 hm3) fun _ =>
            .op (.load (Memref.whole cc0_scratch4) (Rect.unit (s := S8x1024x128) o0' S1x1024x128.size i2).toLoadRect hl2) fun u =>
            .op (.load (Memref.whole cc0_scratch6) (Rect.unit (s := S2x1024x256) ![0, 0, 0] S1x1024x128.size i4).toLoadRect hl4) fun _ =>
            .op (.store (Memref.whole cc0_scratch6) (Rect.unit (s := S2x1024x256) ![0, 0, 0] S1x1024x128.size i4') (pv u) Finset.univ hx4 hm4) fun _ =>
            .op (.waitDma2 sm1 w5 w6 hw5 hw6) fun _ => .op (.waitDma2 sm1' w7 w8 hw7 hw8) fun _ =>
            .op (.load (Memref.whole cc0_scratch3) (Rect.unit (s := S8x1024x128) o1 S1x1024x128.size j1).toLoadRect gl1) fun v =>
            .op (.load (Memref.whole cc0_scratch5) (Rect.unit (s := S2x1024x128) ![1, 0, 0] S1x1024x128.size j3).toLoadRect gl3) fun _ =>
            .op (.store (Memref.whole cc0_scratch5) (Rect.unit (s := S2x1024x128) ![1, 0, 0] S1x1024x128.size j3') (pk' v) Finset.univ gx3 gm3) fun _ =>
            .op (.load (Memref.whole cc0_scratch4) (Rect.unit (s := S8x1024x128) o1' S1x1024x128.size j2).toLoadRect gl2) fun u =>
            .op (.load (Memref.whole cc0_scratch6) (Rect.unit (s := S2x1024x256) ![1, 0, 0] S1x1024x128.size j4).toLoadRect gl4) fun _ =>
            .op (.store (Memref.whole cc0_scratch6) (Rect.unit (s := S2x1024x256) ![1, 0, 0] S1x1024x128.size j4') (pv' u) Finset.univ gx4 gm4) k) Q) := by
  have m (r : Fin 2) : (levAts L lv : sProp 𝕄) ⊢ MayWait (c : Thread nD τ) (.dma (kS b r)) () (Ow c n) := mayWait_h c n hn (kS b r) (lvS_k b r)
  have m' (r : Fin 2) : (levAts L lv : sProp 𝕄) ⊢ MayWait (c : Thread nD τ) (.dma (vS b r)) () (Ow c n) := mayWait_h c n hn (vS b r) (lvS_v b r)
  unfold flB hsB hs
  iintro ⟨#HL, ⟨⟨K0, V0⟩, K1, V1⟩, ⟨Hk0, Hv0, Hk1, Hv1⟩, HO⟩ Hk
  iapply (kvcvt c A b 0 (Ow c n) hs0 hs0' (cred₀ w2) (cred₀ w4) ho0 ho0' hpk.1 hpv.1 (m 0) (m' 0)) $$ [K0 V0 Hk0 Hv0 HO]
  · isplitr; · iexact HL
    isplitl [K0]; · iexact K0
    isplitl [V0]; · iexact V0
    isplitl [Hk0]; · iexact Hk0
    isplitl [Hv0] <;> iassumption
  iintro ⟨K0, V0, Sk0, Sv0, Hk0, Hv0, HO⟩
  iapply (kvcvt c A b 1 (Ow c n) hs1 hs1' (cred₀ w6) (cred₀ w8) ho1 ho1' hpk.2 hpv.2 (m 1) (m' 1)) $$ [K1 V1 Hk1 Hv1 HO]
  · isplitr; · iexact HL
    isplitl [K1]; · iexact K1
    isplitl [V1]; · iexact V1
    isplitl [Hk1]; · iexact Hk1
    isplitl [Hv1] <;> iassumption
  iintro ⟨K1, V1, Sk1, Sv1, Hk1, Hv1, HO⟩
  iapply Hk
  isplitl [K0 V0 Sk0 Sv0 K1 V1 Sk1 Sv1]
  · isplitl [K0 V0 Sk0 Sv0]
    · isplitl [K0]; · iexact K0
      isplitl [V0]; · iexact V0
      isplitl [Sk0] <;> iassumption
    isplitl [K1]; · iexact K1
    isplitl [V1]; · iexact V1
    isplitl [Sk1] <;> iassumption
  isplitl [Hk0 Hv0 Hk1 Hv1]
  · isplitl [Hk0]; · iexact Hk0
    isplitl [Hv0]; · iexact Hv0
    isplitl [Hk1] <;> iassumption
  iexact HO

/-- The buffers after a block serve the next one. -/
theorem reuse (A : Ins F) (b : Fin 4) :
    iprop(owns (c : Thread nD τ) (kB 0) fullShare (kb A c b 0) ∗ owns (c : Thread nD τ) (vA 0) fullShare (vb A c b 0)
        ∗ owns (c : Thread nD τ) (kB 1) fullShare (kb A c b 1) ∗ owns (c : Thread nD τ) (vA 1) fullShare (vb A c b 1))
      ⊢ (iprop((∃ X, owns (c : Thread nD τ) (kB 0) fullShare X) ∗ wide c 0 ∗ (∃ X, owns (c : Thread nD τ) (kB 1) fullShare X) ∗ wide c 1) : sProp 𝕄) := by
  have h (r : Fin 2) : (owns (c : Thread nD τ) (vA r) fullShare (vb A c b r) : sProp 𝕄) ⊢ wide c r := wide_intro c r (vslot_wide _)
  iintro ⟨Hk0, Hv0, Hk1, Hv1⟩
  isplitl [Hk0]; · (iexists _; iexact Hk0)
  isplitl [Hv0]; · (iapply (h 0); iexact Hv0)
  isplitl [Hk1]; · (iexists _; iexact Hk1)
  iapply (h 1); iexact Hv1

/-- Reading the rows of a batch block, or half of them. -/
theorem rows_emb (X : Vec F S1024x1024 .bf16) (b : Fin 4) {o : Fin 2 → ℕ} {ix} (ho : o = ![256 * b.val, 0]) (j : S256x1024.Idx) :
    X ((Rect.unit (s := S1024x1024) o ![256, 1024] ix).emb j) = rows X b j := by
  subst ho
  refine congrArg X (funext fun a => Fin.ext ?_)
  match a with
  | ⟨0, _⟩ => show 256 * b.val + 1 * (j 0).val = 256 * b.val + (j 0).val; omega
  | ⟨1, _⟩ => show 0 + 1 * (j 1).val = (j 1).val; omega
theorem rowsH_emb (X : Vec F S1024x1024 .bf16) (b : Fin 4) (h : Fin 2) {o : Fin 2 → ℕ} {ix} (ho : o = ![256 * b.val + 128 * h.val, 0]) (j : S128x1024.Idx) :
    X ((Rect.unit (s := S1024x1024) o ![128, 1024] ix).emb j) = rowsH X b h j := by
  subst ho
  refine congrArg X (funext fun a => Fin.ext ?_)
  match a with
  | ⟨0, _⟩ => show 256 * b.val + 128 * h.val + 1 * (j 0).val = 256 * b.val + 128 * h.val + (j 0).val; omega
  | ⟨1, _⟩ => show 0 + 1 * (j 1).val = (j 1).val; omega

/-- What the barrier hands over, one by one. -/
theorem barPay_right : (barPay c 0 : sProp 𝕄) = iprop(any (sh 1 c) (rsBuf 0) ∗ any (sh 1 c) (rsBuf 1) ∗ any (sh 1 c) (rsBuf 2) ∗ any (sh 1 c) (agH 1 0) ∗ any (sh 1 c) (agH 1 1)) := rfl
theorem barPay_left : (barPay c 1 : sProp 𝕄) = iprop(any (sh 3 c) (agH 2 0) ∗ any (sh 3 c) (agH 2 1)) := rfl
theorem barPay_opp : (barPay c 2 : sProp 𝕄) = iprop(any (sh 2 c) (agH 3 0) ∗ any (sh 2 c) (agH 3 1)) := rfl

/-- Whose finished block each slot of the buffer holds in the end. -/
abbrev from4 : Fin 4 → Dev nD := ![c, sh 3 c, sh 1 c, sh 2 c]

/-- The eight halves, those sent in the shares the copies read, are the whole buffer. -/
theorem ag_all :
    iprop((sPay I c 3 ∗ sPay I c 4 ∗ sPay I c 5 ∗ sPay I c 6 ∗ sPay I c 7 ∗ sPay I c 8)
        ∗ rPay I c 3 ∗ rPay I c 4 ∗ rPay I c 5 ∗ rPay I c 6 ∗ rPay I c 7 ∗ rPay I c 8)
      ⊢ (owns (c : Thread nD τ) (Memref.whole cc0_scratch11) fullShare (agC fun s => AG I (from4 c s)) : sProp 𝕄) := by
  have hp (h : Fin 2) : iprop(owns (c : Thread nD τ) (agH 0 h) fullShare.left (AG I c h) ∗ owns (c : Thread nD τ) (agH 0 h) fullShare.right.left (AG I c h)
      ∗ owns (c : Thread nD τ) (agH 0 h) fullShare.right.right (AG I c h)) ⊢ (owns (c : Thread nD τ) (agH 0 h) fullShare (AG I c h) : sProp 𝕄) := by
    have h₁ : iprop(owns (c : Thread nD τ) (agH 0 h) fullShare.right.left (AG I c h) ∗ owns (c : Thread nD τ) (agH 0 h) fullShare.right.right (AG I c h)) ⊢ (owns (c : Thread nD τ) (agH 0 h) fullShare.right (AG I c h) : sProp 𝕄) :=
      (owns_halves (c : Thread nD τ) (agH 0 h) fullShare.right (AG I c h)).2
    have h₂ : iprop(owns (c : Thread nD τ) (agH 0 h) fullShare.left (AG I c h) ∗ owns (c : Thread nD τ) (agH 0 h) fullShare.right (AG I c h)) ⊢ (owns (c : Thread nD τ) (agH 0 h) fullShare (AG I c h) : sProp 𝕄) :=
      (owns_halves (c : Thread nD τ) (agH 0 h) fullShare (AG I c h)).2
    iintro ⟨A, B, C⟩
    iapply h₂
    isplitl [A]; · iexact A
    iapply h₁
    isplitl [B] <;> iassumption
  have hj : iprop(owns (c : Thread nD τ) (agH 0 0) fullShare (AG I c 0) ∗ owns (c : Thread nD τ) (agH 0 1) fullShare (AG I c 1) ∗ owns (c : Thread nD τ) (agH 1 0) fullShare (AG I (sh 3 c) 0) ∗ owns (c : Thread nD τ) (agH 1 1) fullShare (AG I (sh 3 c) 1) ∗ owns (c : Thread nD τ) (agH 2 0) fullShare (AG I (sh 1 c) 0) ∗ owns (c : Thread nD τ) (agH 2 1) fullShare (AG I (sh 1 c) 1) ∗ owns (c : Thread nD τ) (agH 3 0) fullShare (AG I (sh 2 c) 0) ∗ owns (c : Thread nD τ) (agH 3 1) fullShare (AG I (sh 2 c) 1)) ⊢ (owns (c : Thread nD τ) (Memref.whole cc0_scratch11) fullShare (agC fun s => AG I (from4 c s)) : sProp 𝕄) := by
    have hj := ag_join c fun s => AG I (from4 c s)
    have := bigSep_univ_eq_bigSepL (M := 𝕄) [((0, 0) : Fin 4 × Fin 2), (0, 1), (1, 0), (1, 1), (2, 0), (2, 1), (3, 0), (3, 1)] (by decide) (by decide)
      fun p => owns (c : Thread nD τ) (agH p.1 p.2) fullShare (AG I (from4 c p.1) p.2)
    rw [this] at hj
    simp only [bigSepL_cons_cons, bigSepL_singleton] at hj
    exact hj
  refine (Entails.of_eq (show _ = iprop((owns (c : Thread nD τ) (agH 0 0) fullShare.left (AG I c 0) ∗ owns (c : Thread nD τ) (agH 0 0) fullShare.right.left (AG I c 0) ∗ owns (c : Thread nD τ) (agH 0 0) fullShare.right.right (AG I c 0) ∗ owns (c : Thread nD τ) (agH 0 1) fullShare.left (AG I c 1) ∗ owns (c : Thread nD τ) (agH 0 1) fullShare.right.left (AG I c 1) ∗ owns (c : Thread nD τ) (agH 0 1) fullShare.right.right (AG I c 1))
    ∗ owns (c : Thread nD τ) (agH 1 0) fullShare (AG I (sh 3 c) 0) ∗ owns (c : Thread nD τ) (agH 2 0) fullShare (AG I (sh 1 c) 0) ∗ owns (c : Thread nD τ) (agH 3 0) fullShare (AG I (sh 2 c) 0) ∗ owns (c : Thread nD τ) (agH 1 1) fullShare (AG I (sh 3 c) 1) ∗ owns (c : Thread nD τ) (agH 2 1) fullShare (AG I (sh 1 c) 1) ∗ owns (c : Thread nD τ) (agH 3 1) fullShare (AG I (sh 2 c) 1)) from rfl)).trans ?_
  iintro ⟨⟨W3, W4, W5, W6, W7, W8⟩, T3, T4, T5, T6, T7, T8⟩
  ihave A0 := (hp 0) $$ [W3 W4 W5]
  · isplitl [W3]; · iexact W3
    isplitl [W4]; · iexact W4
    iexact W5
  ihave A1 := (hp 1) $$ [W6 W7 W8]
  · isplitl [W6]; · iexact W6
    isplitl [W7]; · iexact W7
    iexact W8
  iapply hj
  isplitl [A0]; · iexact A0
  isplitl [A1]; · iexact A1
  isplitl [T3]; · iexact T3
  isplitl [T6]; · iexact T6
  isplitl [T4]; · iexact T4
  isplitl [T7]; · iexact T7
  isplitl [T5]; · iexact T5
  iexact T8

/-- What the body leaves. -/
def bodyPost : sProp 𝕄 :=
  iprop((∃ W, owes (c : Thread nD τ) (Ow c 0) W) ∗ semVal (barCell c) 0
    ∗ bigSep Finset.univ (fun t : Fin 9 => iprop(semVal (sCell t c) 0 ∗ semVal (rCell t c) 0)) ∗ bigSep Finset.univ (hsB c)
    ∗ (∃ q, argsB c (I c) q) ∗ owns (c : Thread nD τ) yM fullShare (OUT I c) ∗ bufB c ∗ (any c (rsBuf 0) ∗ any c (rsBuf 1) ∗ any c (rsBuf 2))
    ∗ ∃ X, owns (c : Thread nD τ) (Memref.whole cc0_scratch11) fullShare X)
set_option maxHeartbeats 8000000 in

theorem body_run {Q : PUnit → sProp (MT nD τ sig Unit (Elt F) ℕ UU ℕ)} :
    iprop(bodyPre I K c) ⊢ iprop((bodyPost I c -∗ Q ⟨⟩) -∗ wp frame (wpE (defs₀ (F := F)) 𝒱₀ (c : Thread nD τ) none) Set.univ
      (cc0_body (F := F) xM (Memref.isWhole_whole _) qM (Memref.isWhole_whole _) oM (Memref.isWhole_whole _) kA (Memref.isWhole_whole _) vAr (Memref.isWhole_whole _) yM (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        (Memref.whole cc0_scratch6) (Memref.isWhole_whole _) (Memref.whole cc0_scratch7) (Memref.isWhole_whole _) (Memref.whole cc0_scratch8) (Memref.isWhole_whole _)
        (Memref.whole cc0_scratch9) (Memref.isWhole_whole _) (Memref.whole cc0_scratch10) (Memref.isWhole_whole _) (Memref.whole cc0_scratch11) (Memref.isWhole_whole _)
        cc0_scratch12 cc0_scratch13 cc0_scratch14 cc0_scratch15) Q) := by
  unfold bodyPre barB argsB bufB
  rw [copies, copies, blocks]
  unfold hsB hs
  rw [cc0_body_eq_skeleton]; unfold cc0_body_skel
  rw [k0_part35_eq_skeleton]; unfold k0_part35_skel
  rw [k0_part1_eq_skeleton]; unfold k0_part1_skel
  simp only [semSignalWord, semWaitWord, Prog.lift, Prog.bind_op, Prog.bind_ret, Prog.pure_eq_ret, wp_deviceId]
  iintro ⟨#HR, #HL, HO, ⟨⟨Hc, Ha⟩, ⟨Ht0, Hb0⟩, ⟨Ht1, Hb1⟩, ⟨Ht2, Hb2⟩⟩, ⟨F0, F1, F2, F3, F4, F5, F6, F7, F8⟩, ⟨V0, V1, V2, V3, V4, V5, V6, V7, V8⟩,
    ⟨⟨A0, A1⟩, ⟨B0, B1⟩, ⟨C0, C1⟩, ⟨D0, D1⟩⟩, ⟨HKV, Hx, Hq, Ho⟩, ⟨%Y, Hy⟩, ⟨Hxb, Hqb, Hob, Hqq, Haa, Hk0, Hv0, Hk1, Hv1, S0, S1, S2⟩, G0, G1⟩ Hk
  iapply (signalT I K c (sh 3 c) _ 0 (Ow c 9 + tallyAt (barCell (sh 2 c)) () 1 + tallyAt (barCell (sh 1 c)) () 1) (dev1_eq c) rfl rfl) $$ [Ht0 Hb0 HO]
  · isplitr; · iexact HR
    isplitl [Ht0]; · iexact Ht0
    isplitl [Hb0]; · iexact Hb0
    iexact HO
  iintro HO
  iapply (signalT I K c (sh 1 c) _ 1 (Ow c 9 + tallyAt (barCell (sh 2 c)) () 1) (dev2_eq c) rfl rfl) $$ [Ht1 Hb1 HO]
  · isplitr; · iexact HR
    isplitl [Ht1]; · iexact Ht1
    isplitl [Hb1] <;> iassumption
  iintro HO
  iapply (signalT I K c (sh 2 c) _ 2 (Ow c 9) (dev3_eq c) rfl rfl) $$ [Ht2 Hb2 HO]
  · isplitr; · iexact HR
    isplitl [Ht2]; · iexact Ht2
    isplitl [Hb2] <;> iassumption
  iintro HO
  iapply (barWait I K c rfl) $$ [Hc Ha HO]
  · isplitr; · iexact HR
    isplitr; · iexact HL
    isplitl [Hc]; · iexact Hc
    isplitl [Ha] <;> iassumption
  iintro ⟨P0, P1, P2, Hbar, HO⟩
  rw [k0_part2_eq_skeleton]; unfold k0_part2_skel
  simp only [Prog.lift, Prog.bind_op, Prog.bind_ret, Prog.pure_eq_ret]
  iapply (fetch c (I c) 0 0 (k0_off1_eq c 0) (k0_off1_eq c 0) rfl rfl (hS_at 0 0 rfl) (hS_at 0 2 rfl)) $$ [HKV A0]
  · isplitl [HKV] <;> iassumption
  iintro ⟨HKV, A0⟩
  iapply (fetch c (I c) 0 1 (k0_off1_eq c 1) (k0_off1_eq c 1) rfl rfl (hS_at 0 1 rfl) (hS_at 0 3 rfl)) $$ [HKV A1]
  · isplitl [HKV] <;> iassumption
  iintro ⟨HKV, A1⟩
  rw [k0_part3_eq_skeleton]; unfold k0_part3_skel
  simp only [Prog.lift, Prog.bind_op, Prog.bind_ret, Prog.pure_eq_ret]
  iapply (fetch c (I c) 1 0 (k0_off2_eq c 0) (k0_off2_eq c 0) rfl rfl (hS_at 1 0 rfl) (hS_at 1 2 rfl)) $$ [HKV B0]
  · isplitl [HKV] <;> iassumption
  iintro ⟨HKV, B0⟩
  iapply (fetch c (I c) 1 1 (k0_off2_eq c 1) (k0_off2_eq c 1) rfl rfl (hS_at 1 1 rfl) (hS_at 1 3 rfl)) $$ [HKV B1]
  · isplitl [HKV] <;> iassumption
  iintro ⟨HKV, B1⟩
  rw [k0_part4_eq_skeleton]; unfold k0_part4_skel
  simp only [Prog.lift, Prog.bind_op, Prog.bind_ret, Prog.pure_eq_ret]
  iapply (fetch c (I c) 2 0 (k0_off3_eq c 0) (k0_off3_eq c 0) rfl rfl (hS_at 2 0 rfl) (hS_at 2 2 rfl)) $$ [HKV C0]
  · isplitl [HKV] <;> iassumption
  iintro ⟨HKV, C0⟩
  rw [k0_part5_eq_skeleton]; unfold k0_part5_skel
  rw [k0_part6_eq_skeleton]; unfold k0_part6_skel
  simp only [Prog.lift, Prog.bind_op, Prog.bind_ret, Prog.pure_eq_ret]
  iapply (fetch c (I c) 2 1 (k0_off3_eq c 1) (k0_off3_eq c 1) rfl rfl (hS_at 2 1 rfl) (hS_at 2 3 rfl)) $$ [HKV C1]
  · isplitl [HKV] <;> iassumption
  iintro ⟨HKV, C1⟩
  iapply (fetch c (I c) 3 0 (k0_off4_eq c 0) (k0_off4_eq c 0) rfl rfl (hS_at 3 0 rfl) (hS_at 3 2 rfl)) $$ [HKV D0]
  · isplitl [HKV] <;> iassumption
  iintro ⟨HKV, D0⟩
  iapply (fetch c (I c) 3 1 (k0_off4_eq c 1) (k0_off4_eq c 1) rfl rfl (hS_at 3 1 rfl) (hS_at 3 3 rfl)) $$ [HKV D1]
  · isplitl [HKV] <;> iassumption
  iintro ⟨HKV, D1⟩
  have hfl : iprop((flB c (I c) 0 ∗ flB c (I c) 1 ∗ flB c (I c) 2 ∗ flB c (I c) 3)) ⊢ (iprop(flB c (I c) c ∗ flB c (I c) (sh 3 c) ∗ flB c (I c) (sh 2 c) ∗ flB c (I c) (sh 1 c)) : sProp 𝕄) :=
    Entails.of_eq ((blocks (flB c (I c))).symm.trans (blocksAt c (flB c (I c))))
  unfold flB at hfl
  ihave Hfl := hfl $$ [A0 A1 B0 B1 C0 C1 D0 D1]
  · isplitl [A0 A1]
    · isplitl [A0] <;> iassumption
    isplitl [B0 B1]
    · isplitl [B0] <;> iassumption
    isplitl [C0 C1]
    · isplitl [C0] <;> iassumption
    isplitl [D0] <;> iassumption
  icases Hfl with ⟨A, B, C, D⟩
  iapply (fill c zero3 zero2) $$ [Hx Hxb]
  · isplitl [Hx] <;> iassumption
  iintro ⟨Hx, Hxb⟩
  iapply (fill c zero2 zero2) $$ [Hq Hqb]
  · isplitl [Hq] <;> iassumption
  iintro ⟨Hq, Hqb⟩
  iapply (fill c zero2 zero2) $$ [Ho Hob]
  · isplitl [Ho] <;> iassumption
  iintro ⟨Ho, Hob⟩
  rw [k0_part7_eq_skeleton]; unfold k0_part7_skel
  rw [k0_part8_eq_skeleton]; unfold k0_part8_skel
  simp only [Prog.lift, Prog.bind_op, Prog.bind_ret, Prog.pure_eq_ret]
  iapply (setOnes c 0 rfl) $$ Hv0
  iintro Hv0
  iapply (setOnes c 1 rfl) $$ Hv1
  iintro Hv1
  rw [k0_part9_eq_skeleton]; unfold k0_part9_skel
  simp only [Prog.lift, Prog.bind_op, Prog.bind_ret, Prog.pure_eq_ret]
  iapply (kv2 c (I c) c 9 (kS_at c 0 (k0_off5_eq c)) (vS_at c 0 (k0_off8_eq c)) (kS_at c 1 (k0_off10_eq c)) (vS_at c 1 (k0_off11_eq c))
    (k0_off9_eq c 0) (k0_off9_eq c 0) (k0_off9_eq c 1) (k0_off9_eq c 1) ⟨rfl, rfl⟩ ⟨rfl, rfl⟩ (by decide)) $$ [A Hk0 Hv0 Hk1 Hv1 HO]
  · isplitr; · iexact HL
    isplitl [A]; · (unfold flB; iexact A)
    isplitl [Hk0 Hv0 Hk1 Hv1]
    · isplitl [Hk0]; · iexact Hk0
      isplitl [Hv0]; · iexact Hv0
      isplitl [Hk1] <;> iassumption
    iexact HO
  iintro ⟨A, ⟨Hk0, Hv0, Hk1, Hv1⟩, HO⟩
  rw [k0_part10_eq_skeleton]; unfold k0_part10_skel
  rw [k0_part11_eq_skeleton]; unfold k0_part11_skel
  simp only [Prog.lift, Prog.bind_op, Prog.bind_ret, Prog.pure_eq_ret]
  iapply (qattn c 256 (rows (k0_pay3 (I c).x) c) (k0_pay3 (I c).x) (k0_pay4 (I c).wq) (k0_pay5 (I c).wo) (kb (I c) c c 0) (kb (I c) c c 1) (vb (I c) c c 0) (vb (I c) c c 1) Y
    (pq := k0_pay14) (pa := k0_pay17) (pb := k0_pay17) (po := k0_pay18) (rows_emb (k0_pay3 (I c).x) c (k0_off12_eq c)) rfl) $$ [Hxb Hqb Hob Hqq Haa Hk0 Hv0 Hk1 Hv1 Hy]
  · isplitl [Hxb]; · iexact Hxb
    isplitl [Hqb]; · iexact Hqb
    isplitl [Hob]; · iexact Hob
    isplitl [Hqq]; · iexact Hqq
    isplitl [Haa]; · iexact Haa
    isplitl [Hk0]; · iexact Hk0
    isplitl [Hv0]; · iexact Hv0
    isplitl [Hk1]; · iexact Hk1
    isplitl [Hv1] <;> iassumption
  iintro ⟨Hxb, Hqb, Hob, Hqq, Haa, Hk0, Hv0, Hk1, Hv1, Hy⟩
  ihave Hy := (Entails.of_eq (congrArg (owns (c : Thread nD τ) yM fullShare) (overlay_rows (Y) c (k0_off12_eq c) (part (I c) c c)))) $$ [Hy]
  · iexact Hy
  iapply (ld_as c (part (I c) c c) (upd_emb _ _ (k0_off12_eq c) _)) $$ Hy
  iintro Hy
  ihave P0 := (Entails.of_eq (barPay_right (F := F) c)) $$ P0
  icases P0 with ⟨R0, R1, R2, R3, R4⟩
  iapply (push I K c 0 _ rfl (Fin.ext (k0_dev4_eq c)) rfl rfl rfl rfl) $$ [F0 S0 R0 HO]
  · isplitr; · iexact HR
    isplitl [F0]; · iexact F0
    isplitl [S0]; · iexact S0
    isplitl [R0]; · iexact R0
    iexact HO
  iintro ⟨F0, HO⟩
  rw [k0_part12_eq_skeleton]; unfold k0_part12_skel
  rw [k0_part13_eq_skeleton]; unfold k0_part13_skel
  rw [k0_part14_eq_skeleton]; unfold k0_part14_skel
  simp only [Prog.lift, Prog.bind_op, Prog.bind_ret, Prog.pure_eq_ret]
  ihave Hre := (reuse c (I c) c) $$ [Hk0 Hv0 Hk1 Hv1]
  · isplitl [Hk0]; · iexact Hk0
    isplitl [Hv0]; · iexact Hv0
    isplitl [Hk1] <;> iassumption
  iapply (kv2 c (I c) (sh 3 c) 8 (kS_at (sh 3 c) 0 (k0_off13_eq c 0)) (vS_at (sh 3 c) 0 (k0_off16_eq c 0)) (kS_at (sh 3 c) 1 (k0_off18_eq c 0)) (vS_at (sh 3 c) 1 (k0_off19_eq c 0))
    (k0_off17_eq c 0 0) (k0_off17_eq c 0 0) (k0_off17_eq c 0 1) (k0_off17_eq c 0 1) ⟨rfl, rfl⟩ ⟨rfl, rfl⟩ (by decide)) $$ [B Hre HO]
  · isplitr; · iexact HL
    isplitl [B]; · (unfold flB; iexact B)
    isplitl [Hre]; · iexact Hre
    iexact HO
  iintro ⟨B, ⟨Hk0, Hv0, Hk1, Hv1⟩, HO⟩
  rw [k0_part15_eq_skeleton]; unfold k0_part15_skel
  simp only [Prog.lift, Prog.bind_op, Prog.bind_ret, Prog.pure_eq_ret]
  iapply (qattn c 256 (rows (k0_pay3 (I c).x) (sh 3 c)) (k0_pay3 (I c).x) (k0_pay4 (I c).wq) (k0_pay5 (I c).wo) (kb (I c) c (sh 3 c) 0) (kb (I c) c (sh 3 c) 1) (vb (I c) c (sh 3 c) 0) (vb (I c) c (sh 3 c) 1) (upd (Y) c (part (I c) c c))
    (pq := k0_pay24) (pa := k0_pay17) (pb := k0_pay17) (po := k0_pay28) (rows_emb (k0_pay3 (I c).x) (sh 3 c) (k0_off20_eq c 0)) rfl) $$ [Hxb Hqb Hob Hqq Haa Hk0 Hv0 Hk1 Hv1 Hy]
  · isplitl [Hxb]; · iexact Hxb
    isplitl [Hqb]; · iexact Hqb
    isplitl [Hob]; · iexact Hob
    isplitl [Hqq]; · iexact Hqq
    isplitl [Haa]; · iexact Haa
    isplitl [Hk0]; · iexact Hk0
    isplitl [Hv0]; · iexact Hv0
    isplitl [Hk1]; · iexact Hk1
    isplitl [Hv1] <;> iassumption
  iintro ⟨Hxb, Hqb, Hob, Hqq, Haa, Hk0, Hv0, Hk1, Hv1, Hy⟩
  ihave Hy := (Entails.of_eq (congrArg (owns (c : Thread nD τ) yM fullShare) (overlay_rows (upd (Y) c (part (I c) c c)) (sh 3 c) (k0_off20_eq c 0) (part (I c) c (sh 3 c))))) $$ [Hy]
  · iexact Hy
  rw [k0_part16_eq_skeleton]; unfold k0_part16_skel
  simp only [Prog.lift, Prog.bind_op, Prog.bind_ret, Prog.pure_eq_ret]
  iapply (waitS I K c 0 8 rfl (cred₁ _) (by decide) (by decide)) $$ [F0 HO]
  · isplitr; · iexact HR
    isplitr; · iexact HL
    isplitl [F0]; · iexact F0
    iexact HO
  iintro ⟨S0, Z0, HO⟩
  iapply (waitR I K c 0 8 rfl (cred₁ _) (by decide) (by decide)) $$ [V0 HO]
  · isplitr; · iexact HR
    isplitr; · iexact HL
    isplitl [V0]; · iexact V0
    iexact HO
  iintro ⟨T0, U0, HO⟩
  ihave T0 := (Entails.of_eq (show rPay I c 0 = owns (c : Thread nD τ) (rsBuf 0) fullShare (RS0 I (sh 3 c)) from rfl)) $$ T0
  iapply (ld_as c (part (I c) c (sh 3 c)) (upd_emb _ _ (k0_off20_eq c 0) _)) $$ Hy
  iintro Hy
  iapply (ld_slice c) $$ T0
  iintro T0
  rw [k0_part17_eq_skeleton]; unfold k0_part17_skel
  simp only [Prog.lift, Prog.bind_op, Prog.bind_ret, Prog.pure_eq_ret]
  iapply (push I K c 1 _ rfl (Fin.ext (k0_dev5_eq c)) rfl rfl rfl rfl) $$ [F1 S1 R1 HO]
  · isplitr; · iexact HR
    isplitl [F1]; · iexact F1
    isplitl [S1]; · iexact S1
    isplitl [R1]; · iexact R1
    iexact HO
  iintro ⟨F1, HO⟩
  rw [k0_part18_eq_skeleton]; unfold k0_part18_skel
  rw [k0_part19_eq_skeleton]; unfold k0_part19_skel
  simp only [Prog.lift, Prog.bind_op, Prog.bind_ret, Prog.pure_eq_ret]
  ihave Hre := (reuse c (I c) (sh 3 c)) $$ [Hk0 Hv0 Hk1 Hv1]
  · isplitl [Hk0]; · iexact Hk0
    isplitl [Hv0]; · iexact Hv0
    isplitl [Hk1] <;> iassumption
  iapply (kv2 c (I c) (sh 2 c) 7 (kS_at (sh 2 c) 0 (k0_off13_eq c 1)) (vS_at (sh 2 c) 0 (k0_off16_eq c 1)) (kS_at (sh 2 c) 1 (k0_off18_eq c 1)) (vS_at (sh 2 c) 1 (k0_off19_eq c 1))
    (k0_off17_eq c 1 0) (k0_off17_eq c 1 0) (k0_off17_eq c 1 1) (k0_off17_eq c 1 1) ⟨rfl, rfl⟩ ⟨rfl, rfl⟩ (by decide)) $$ [C Hre HO]
  · isplitr; · iexact HL
    isplitl [C]; · (unfold flB; iexact C)
    isplitl [Hre]; · iexact Hre
    iexact HO
  iintro ⟨C, ⟨Hk0, Hv0, Hk1, Hv1⟩, HO⟩
  rw [k0_part20_eq_skeleton]; unfold k0_part20_skel
  rw [k0_part21_eq_skeleton]; unfold k0_part21_skel
  simp only [Prog.lift, Prog.bind_op, Prog.bind_ret, Prog.pure_eq_ret]
  iapply (qattn c 256 (rows (k0_pay3 (I c).x) (sh 2 c)) (k0_pay3 (I c).x) (k0_pay4 (I c).wq) (k0_pay5 (I c).wo) (kb (I c) c (sh 2 c) 0) (kb (I c) c (sh 2 c) 1) (vb (I c) c (sh 2 c) 0) (vb (I c) c (sh 2 c) 1) (upd (upd (Y) c (part (I c) c c)) (sh 3 c) (part (I c) c (sh 3 c)))
    (pq := k0_pay35) (pa := k0_pay17) (pb := k0_pay17) (po := k0_pay18) (rows_emb (k0_pay3 (I c).x) (sh 2 c) (k0_off20_eq c 1)) rfl) $$ [Hxb Hqb Hob Hqq Haa Hk0 Hv0 Hk1 Hv1 Hy]
  · isplitl [Hxb]; · iexact Hxb
    isplitl [Hqb]; · iexact Hqb
    isplitl [Hob]; · iexact Hob
    isplitl [Hqq]; · iexact Hqq
    isplitl [Haa]; · iexact Haa
    isplitl [Hk0]; · iexact Hk0
    isplitl [Hv0]; · iexact Hv0
    isplitl [Hk1]; · iexact Hk1
    isplitl [Hv1] <;> iassumption
  iintro ⟨Hxb, Hqb, Hob, Hqq, Haa, Hk0, Hv0, Hk1, Hv1, Hy⟩
  ihave Hy := (Entails.of_eq (congrArg (owns (c : Thread nD τ) yM fullShare) (overlay_rows (upd (upd (Y) c (part (I c) c c)) (sh 3 c) (part (I c) c (sh 3 c))) (sh 2 c) (k0_off20_eq c 1) (part (I c) c (sh 2 c))))) $$ [Hy]
  · iexact Hy
  iapply (waitS I K c 1 7 rfl (cred₁ _) (by decide) (by decide)) $$ [F1 HO]
  · isplitr; · iexact HR
    isplitr; · iexact HL
    isplitl [F1]; · iexact F1
    iexact HO
  iintro ⟨S1, Z1, HO⟩
  iapply (waitR I K c 1 7 rfl (cred₁ _) (by decide) (by decide)) $$ [V1 HO]
  · isplitr; · iexact HR
    isplitr; · iexact HL
    isplitl [V1]; · iexact V1
    iexact HO
  iintro ⟨T1, U1, HO⟩
  ihave T1 := (Entails.of_eq (show rPay I c 1 = owns (c : Thread nD τ) (rsBuf 1) fullShare (RS1 I (sh 3 c)) from rfl)) $$ T1
  iapply (ld_as c (part (I c) c (sh 2 c)) (upd_emb _ _ (k0_off20_eq c 1) _)) $$ Hy
  iintro Hy
  iapply (ld_slice c) $$ T1
  iintro T1
  rw [k0_part22_eq_skeleton]; unfold k0_part22_skel
  simp only [Prog.lift, Prog.bind_op, Prog.bind_ret, Prog.pure_eq_ret]
  iapply (push I K c 2 _ rfl (Fin.ext (k0_dev6_eq c)) rfl rfl rfl rfl) $$ [F2 S2 R2 HO]
  · isplitr; · iexact HR
    isplitl [F2]; · iexact F2
    isplitl [S2]; · iexact S2
    isplitl [R2]; · iexact R2
    iexact HO
  iintro ⟨F2, HO⟩
  rw [k0_part23_eq_skeleton]; unfold k0_part23_skel
  rw [k0_part24_eq_skeleton]; unfold k0_part24_skel
  simp only [Prog.lift, Prog.bind_op, Prog.bind_ret, Prog.pure_eq_ret]
  ihave Hre := (reuse c (I c) (sh 2 c)) $$ [Hk0 Hv0 Hk1 Hv1]
  · isplitl [Hk0]; · iexact Hk0
    isplitl [Hv0]; · iexact Hv0
    isplitl [Hk1] <;> iassumption
  iapply (kv2 c (I c) (sh 1 c) 6 (kS_at (sh 1 c) 0 (k0_off21_eq c)) (vS_at (sh 1 c) 0 (k0_off24_eq c)) (kS_at (sh 1 c) 1 (k0_off26_eq c)) (vS_at (sh 1 c) 1 (k0_off27_eq c))
    (k0_off25_eq c 0) (k0_off25_eq c 0) (k0_off25_eq c 1) (k0_off25_eq c 1) ⟨rfl, rfl⟩ ⟨rfl, rfl⟩ (by decide)) $$ [D Hre HO]
  · isplitr; · iexact HL
    isplitl [D]; · (unfold flB; iexact D)
    isplitl [Hre]; · iexact Hre
    iexact HO
  iintro ⟨D, ⟨Hk0, Hv0, Hk1, Hv1⟩, HO⟩
  rw [k0_part25_eq_skeleton]; unfold k0_part25_skel
  simp only [Prog.lift, Prog.bind_op, Prog.bind_ret, Prog.pure_eq_ret]
  iapply (waitS I K c 2 6 rfl (cred₁ _) (by decide) (by decide)) $$ [F2 HO]
  · isplitr; · iexact HR
    isplitr; · iexact HL
    isplitl [F2]; · iexact F2
    iexact HO
  iintro ⟨S2, Z2, HO⟩
  iapply (waitR I K c 2 6 rfl (cred₁ _) (by decide) (by decide)) $$ [V2 HO]
  · isplitr; · iexact HR
    isplitr; · iexact HL
    isplitl [V2]; · iexact V2
    iexact HO
  iintro ⟨T2, U2, HO⟩
  ihave T2 := (Entails.of_eq (show rPay I c 2 = owns (c : Thread nD τ) (rsBuf 2) fullShare (RS2 I (sh 3 c)) from rfl)) $$ T2
  ihave P1 := (Entails.of_eq (barPay_left (F := F) c)) $$ P1
  icases P1 with ⟨L0, L1⟩
  ihave P2 := (Entails.of_eq (barPay_opp (F := F) c)) $$ P2
  icases P2 with ⟨O0, O1⟩
  rw [k0_part26_eq_skeleton]; unfold k0_part26_skel
  simp only [Prog.lift, Prog.bind_op, Prog.bind_ret, Prog.pure_eq_ret]
  iapply (qattn c 128 (rowsH (k0_pay3 (I c).x) (sh 1 c) 0) (k0_pay3 (I c).x) (k0_pay4 (I c).wq) (k0_pay5 (I c).wo) (kb (I c) c (sh 1 c) 0) (kb (I c) c (sh 1 c) 1) (vb (I c) c (sh 1 c) 0) (vb (I c) c (sh 1 c) 1) (upd (upd (upd (Y) c (part (I c) c c)) (sh 3 c) (part (I c) c (sh 3 c))) (sh 2 c) (part (I c) c (sh 2 c)))
    (pq := k0_pay45) (pa := k0_pay48) (pb := k0_pay48) (po := k0_pay49) (rowsH_emb (k0_pay3 (I c).x) (sh 1 c) 0 (k0_off28_eq c 0)) rfl) $$ [Hxb Hqb Hob Hqq Haa Hk0 Hv0 Hk1 Hv1 Hy]
  · isplitl [Hxb]; · iexact Hxb
    isplitl [Hqb]; · iexact Hqb
    isplitl [Hob]; · iexact Hob
    isplitl [Hqq]; · iexact Hqq
    isplitl [Haa]; · iexact Haa
    isplitl [Hk0]; · iexact Hk0
    isplitl [Hv0]; · iexact Hv0
    isplitl [Hk1]; · iexact Hk1
    isplitl [Hv1] <;> iassumption
  iintro ⟨Hxb, Hqb, Hob, Hqq, Haa, Hk0, Hv0, Hk1, Hv1, Hy⟩
  rw [k0_part27_eq_skeleton]; unfold k0_part27_skel
  rw [k0_part28_eq_skeleton]; unfold k0_part28_skel
  simp only [Prog.lift, Prog.bind_op, Prog.bind_ret, Prog.pure_eq_ret]
  iapply (half I K c 0 (upd (upd (upd (Y) c (part (I c) c c)) (sh 3 c) (part (I c) c (sh 3 c))) (sh 2 c) (part (I c) c (sh 2 c))) rfl rfl ⟨Fin.ext (k0_dev7_eq c), rfl, rfl, rfl, rfl⟩ ⟨Fin.ext (k0_dev8_eq c), rfl, rfl, rfl, rfl⟩ ⟨Fin.ext (k0_dev9_eq c), rfl, rfl, rfl, rfl⟩) $$ [F3 F4 F5 G0 R3 L0 O0 T2 Hy HO]
  · isplitr; · iexact HR
    isplitl [F3 F4 F5]
    · isplitl [F3]; · iexact F3
      isplitl [F4]; · iexact F4
      iexact F5
    isplitl [G0]; · iexact G0
    isplitl [R3 L0 O0]
    · isplitl [R3]; · iexact R3
      isplitl [L0]; · iexact L0
      iexact O0
    isplitl [T2]; · iexact T2
    isplitl [Hy]; · iexact Hy
    iexact HO
  iintro ⟨⟨F3, F4, F5⟩, T2, Hy, HO⟩
  ihave Hy := (Entails.of_eq (congrArg (owns (c : Thread nD τ) yM fullShare) (overlay_half (upd (upd (upd (Y) c (part (I c) c c)) (sh 3 c) (part (I c) c (sh 3 c))) (sh 2 c) (part (I c) c (sh 2 c))) (sh 1 c) 0 (k0_off28_eq c 0) (fin I c 0) (partH (I c) c (sh 1 c) 0)))) $$ [Hy]
  · iexact Hy
  rw [k0_part29_eq_skeleton]; unfold k0_part29_skel
  rw [k0_part30_eq_skeleton]; unfold k0_part30_skel
  simp only [Prog.lift, Prog.bind_op, Prog.bind_ret, Prog.pure_eq_ret]
  iapply (qattn c 128 (rowsH (k0_pay3 (I c).x) (sh 1 c) 1) (k0_pay3 (I c).x) (k0_pay4 (I c).wq) (k0_pay5 (I c).wo) (kb (I c) c (sh 1 c) 0) (kb (I c) c (sh 1 c) 1) (vb (I c) c (sh 1 c) 0) (vb (I c) c (sh 1 c) 1) (updH (upd (upd (upd (Y) c (part (I c) c c)) (sh 3 c) (part (I c) c (sh 3 c))) (sh 2 c) (part (I c) c (sh 2 c))) (sh 1 c) 0 (fin I c 0))
    (pq := k0_pay45) (pa := k0_pay48) (pb := k0_pay48) (po := k0_pay49) (rowsH_emb (k0_pay3 (I c).x) (sh 1 c) 1 (k0_off28_eq c 1)) rfl) $$ [Hxb Hqb Hob Hqq Haa Hk0 Hv0 Hk1 Hv1 Hy]
  · isplitl [Hxb]; · iexact Hxb
    isplitl [Hqb]; · iexact Hqb
    isplitl [Hob]; · iexact Hob
    isplitl [Hqq]; · iexact Hqq
    isplitl [Haa]; · iexact Haa
    isplitl [Hk0]; · iexact Hk0
    isplitl [Hv0]; · iexact Hv0
    isplitl [Hk1]; · iexact Hk1
    isplitl [Hv1] <;> iassumption
  iintro ⟨Hxb, Hqb, Hob, Hqq, Haa, Hk0, Hv0, Hk1, Hv1, Hy⟩
  rw [k0_part31_eq_skeleton]; unfold k0_part31_skel
  simp only [Prog.lift, Prog.bind_op, Prog.bind_ret, Prog.pure_eq_ret]
  iapply (half I K c 1 (updH (upd (upd (upd (Y) c (part (I c) c c)) (sh 3 c) (part (I c) c (sh 3 c))) (sh 2 c) (part (I c) c (sh 2 c))) (sh 1 c) 0 (fin I c 0)) rfl rfl ⟨Fin.ext (k0_dev10_eq c), rfl, rfl, rfl, rfl⟩ ⟨Fin.ext (k0_dev11_eq c), rfl, rfl, rfl, rfl⟩ ⟨Fin.ext (k0_dev12_eq c), rfl, rfl, rfl, rfl⟩) $$ [F6 F7 F8 G1 R4 L1 O1 T2 Hy HO]
  · isplitr; · iexact HR
    isplitl [F6 F7 F8]
    · isplitl [F6]; · iexact F6
      isplitl [F7]; · iexact F7
      iexact F8
    isplitl [G1]; · iexact G1
    isplitl [R4 L1 O1]
    · isplitl [R4]; · iexact R4
      isplitl [L1]; · iexact L1
      iexact O1
    isplitl [T2]; · iexact T2
    isplitl [Hy]; · iexact Hy
    iexact HO
  iintro ⟨⟨F6, F7, F8⟩, T2, Hy, HO⟩
  ihave Hy := (Entails.of_eq (congrArg (owns (c : Thread nD τ) yM fullShare) (overlay_half (updH (upd (upd (upd (Y) c (part (I c) c c)) (sh 3 c) (part (I c) c (sh 3 c))) (sh 2 c) (part (I c) c (sh 2 c))) (sh 1 c) 0 (fin I c 0)) (sh 1 c) 1 (k0_off28_eq c 1) (fin I c 1) (partH (I c) c (sh 1 c) 1)))) $$ [Hy]
  · iexact Hy
  rw [k0_part32_eq_skeleton]; unfold k0_part32_skel
  rw [k0_part33_eq_skeleton]; unfold k0_part33_skel
  rw [k0_part34_eq_skeleton]; unfold k0_part34_skel
  simp only [Prog.lift, Prog.bind_op, Prog.bind_ret, Prog.pure_eq_ret]
  iapply (waitS I K c 3 0 rfl (cred₂ _) (by decide) (by decide)) $$ [F3 HO]
  · isplitr; · iexact HR
    isplitr; · iexact HL
    isplitl [F3]; · iexact F3
    iexact HO
  iintro ⟨W3, Z3, HO⟩
  iapply (waitR I K c 3 0 rfl (cred₂ _) (by decide) (by decide)) $$ [V3 HO]
  · isplitr; · iexact HR
    isplitr; · iexact HL
    isplitl [V3]; · iexact V3
    iexact HO
  iintro ⟨T3, U3, HO⟩
  iapply (waitS I K c 4 0 rfl (cred₂ _) (by decide) (by decide)) $$ [F4 HO]
  · isplitr; · iexact HR
    isplitr; · iexact HL
    isplitl [F4]; · iexact F4
    iexact HO
  iintro ⟨W4, Z4, HO⟩
  iapply (waitR I K c 4 0 rfl (cred₂ _) (by decide) (by decide)) $$ [V4 HO]
  · isplitr; · iexact HR
    isplitr; · iexact HL
    isplitl [V4]; · iexact V4
    iexact HO
  iintro ⟨T4, U4, HO⟩
  iapply (waitS I K c 5 0 rfl (cred₂ _) (by decide) (by decide)) $$ [F5 HO]
  · isplitr; · iexact HR
    isplitr; · iexact HL
    isplitl [F5]; · iexact F5
    iexact HO
  iintro ⟨W5, Z5, HO⟩
  iapply (waitR I K c 5 0 rfl (cred₂ _) (by decide) (by decide)) $$ [V5 HO]
  · isplitr; · iexact HR
    isplitr; · iexact HL
    isplitl [V5]; · iexact V5
    iexact HO
  iintro ⟨T5, U5, HO⟩
  iapply (waitS I K c 6 0 rfl (cred₂ _) (by decide) (by decide)) $$ [F6 HO]
  · isplitr; · iexact HR
    isplitr; · iexact HL
    isplitl [F6]; · iexact F6
    iexact HO
  iintro ⟨W6, Z6, HO⟩
  iapply (waitR I K c 6 0 rfl (cred₂ _) (by decide) (by decide)) $$ [V6 HO]
  · isplitr; · iexact HR
    isplitr; · iexact HL
    isplitl [V6]; · iexact V6
    iexact HO
  iintro ⟨T6, U6, HO⟩
  iapply (waitS I K c 7 0 rfl (cred₂ _) (by decide) (by decide)) $$ [F7 HO]
  · isplitr; · iexact HR
    isplitr; · iexact HL
    isplitl [F7]; · iexact F7
    iexact HO
  iintro ⟨W7, Z7, HO⟩
  iapply (waitR I K c 7 0 rfl (cred₂ _) (by decide) (by decide)) $$ [V7 HO]
  · isplitr; · iexact HR
    isplitr; · iexact HL
    isplitl [V7]; · iexact V7
    iexact HO
  iintro ⟨T7, U7, HO⟩
  iapply (waitS I K c 8 0 rfl (cred₂ _) (by decide) (by decide)) $$ [F8 HO]
  · isplitr; · iexact HR
    isplitr; · iexact HL
    isplitl [F8]; · iexact F8
    iexact HO
  iintro ⟨W8, Z8, HO⟩
  iapply (waitR I K c 8 0 rfl (cred₂ _) (by decide) (by decide)) $$ [V8 HO]
  · isplitr; · iexact HR
    isplitr; · iexact HL
    isplitl [V8]; · iexact V8
    iexact HO
  iintro ⟨T8, U8, HO⟩
  ihave Hg := (ag_all I c) $$ [W3 W4 W5 W6 W7 W8 T3 T4 T5 T6 T7 T8]
  · isplitl [W3 W4 W5 W6 W7 W8]
    · isplitl [W3]; · iexact W3
      isplitl [W4]; · iexact W4
      isplitl [W5]; · iexact W5
      isplitl [W6]; · iexact W6
      isplitl [W7]; · iexact W7
      iexact W8
    isplitl [T3]; · iexact T3
    isplitl [T4]; · iexact T4
    isplitl [T5]; · iexact T5
    isplitl [T6]; · iexact T6
    isplitl [T7]; · iexact T7
    iexact T8
  iapply (ld_as c (slotOf (AG I (sh 3 c))) (agC_slot (fun s => AG I (from4 c s)) 1 _)) $$ Hg
  iintro Hg
  iapply (ld c) $$ Hy
  iintro Hy
  iapply (st c) $$ Hy
  iintro Hy
  ihave Hy := (Entails.of_eq (congrArg (owns (c : Thread nD τ) yM fullShare) (overlay_rows (updH (updH (upd (upd (upd (Y) c (part (I c) c c)) (sh 3 c) (part (I c) c (sh 3 c))) (sh 2 c) (part (I c) c (sh 2 c))) (sh 1 c) 0 (fin I c 0)) (sh 1 c) 1 (fin I c 1)) c (k0_off12_eq c) (k0_pay60 (slotOf (AG I (sh 3 c))))))) $$ [Hy]
  · iexact Hy
  iapply (ld_as c (slotOf (AG I (sh 1 c))) (agC_slot (fun s => AG I (from4 c s)) 2 _)) $$ Hg
  iintro Hg
  iapply (ld c) $$ Hy
  iintro Hy
  iapply (st c) $$ Hy
  iintro Hy
  ihave Hy := (Entails.of_eq (congrArg (owns (c : Thread nD τ) yM fullShare) (overlay_rows (upd (updH (updH (upd (upd (upd (Y) c (part (I c) c c)) (sh 3 c) (part (I c) c (sh 3 c))) (sh 2 c) (part (I c) c (sh 2 c))) (sh 1 c) 0 (fin I c 0)) (sh 1 c) 1 (fin I c 1)) c (k0_pay60 (slotOf (AG I (sh 3 c))))) (sh 2 c) (k0_off29_eq c 0) (k0_pay60 (slotOf (AG I (sh 1 c))))))) $$ [Hy]
  · iexact Hy
  iapply (ld_as c (slotOf (AG I (sh 2 c))) (agC_slot (fun s => AG I (from4 c s)) 3 _)) $$ Hg
  iintro Hg
  iapply (ld c) $$ Hy
  iintro Hy
  iapply (st c) $$ Hy
  iintro Hy
  ihave Hy := (Entails.of_eq (congrArg (owns (c : Thread nD τ) yM fullShare) (overlay_rows (upd (upd (updH (updH (upd (upd (upd (Y) c (part (I c) c c)) (sh 3 c) (part (I c) c (sh 3 c))) (sh 2 c) (part (I c) c (sh 2 c))) (sh 1 c) 0 (fin I c 0)) (sh 1 c) 1 (fin I c 1)) c (k0_pay60 (slotOf (AG I (sh 3 c))))) (sh 2 c) (k0_pay60 (slotOf (AG I (sh 1 c))))) (sh 3 c) (k0_off29_eq c 1) (k0_pay60 (slotOf (AG I (sh 2 c))))))) $$ [Hy]
  · iexact Hy
  ihave Hy := (Entails.of_eq (congrArg (owns (c : Thread nD τ) yM fullShare) (out_eq Y I c (part (I c) c c) (part (I c) c (sh 3 c)) (part (I c) c (sh 2 c))))) $$ [Hy]
  · iexact Hy
  rw [wp_ret]
  imodintro
  iapply Hk
  unfold bodyPost
  isplitl [HO]; · iexact HO
  isplitl [Hbar]; · iexact Hbar
  isplitl [Z0 U0 Z1 U1 Z2 U2 Z3 U3 Z4 U4 Z5 U5 Z6 U6 Z7 U7 Z8 U8]
  · rw [copies]
    isplitl [Z0 U0]
    · isplitl [Z0] <;> iassumption
    isplitl [Z1 U1]
    · isplitl [Z1] <;> iassumption
    isplitl [Z2 U2]
    · isplitl [Z2] <;> iassumption
    isplitl [Z3 U3]
    · isplitl [Z3] <;> iassumption
    isplitl [Z4 U4]
    · isplitl [Z4] <;> iassumption
    isplitl [Z5 U5]
    · isplitl [Z5] <;> iassumption
    isplitl [Z6 U6]
    · isplitl [Z6] <;> iassumption
    isplitl [Z7 U7]
    · isplitl [Z7] <;> iassumption
    isplitl [Z8] <;> iassumption
  isplitl [A B C D]
  · rw [blocksAt c]
    isplitl [A]; · iexact A
    isplitl [B]; · iexact B
    isplitl [C] <;> iassumption
  isplitl [HKV Hx Hq Ho]
  · iexists _
    unfold argsB
    isplitl [HKV]; · iexact HKV
    isplitl [Hx]; · iexact Hx
    isplitl [Hq] <;> iassumption
  isplitl [Hy]; · iexact Hy
  ihave S0 := (Entails.of_eq (show sPay I c 0 = owns (c : Thread nD τ) (rsOut 0) fullShare (RS0 I c) from rfl)) $$ S0
  ihave S1 := (Entails.of_eq (show sPay I c 1 = owns (c : Thread nD τ) (rsOut 1) fullShare (RS1 I c) from rfl)) $$ S1
  ihave S2 := (Entails.of_eq (show sPay I c 2 = owns (c : Thread nD τ) (rsOut 2) fullShare (RS2 I c) from rfl)) $$ S2
  isplitl [Hxb Hqb Hob Hqq Haa Hk0 Hv0 Hk1 Hv1 S0 S1 S2]
  · unfold bufB any
    isplitl [Hxb]; · (iexists _; iexact Hxb)
    isplitl [Hqb]; · (iexists _; iexact Hqb)
    isplitl [Hob]; · (iexists _; iexact Hob)
    isplitl [Hqq]; · iexact Hqq
    isplitl [Haa]; · iexact Haa
    isplitl [Hk0]; · (iexists _; iexact Hk0)
    isplitl [Hv0]; · (iexists _; iexact Hv0)
    isplitl [Hk1]; · (iexists _; iexact Hk1)
    isplitl [Hv1]; · (iexists _; iexact Hv1)
    isplitl [S0]; · (iexists (RS0 I c); iexact S0)
    isplitl [S1]; · (iexists (RS1 I c); iexact S1)
    iexists (RS2 I c); iexact S2
  isplitl [T0 T1 T2]
  · unfold any
    isplitl [T0]; · (iexists (RS0 I (sh 3 c)); iexact T0)
    isplitl [T1]; · (iexists (RS1 I (sh 3 c)); iexact T1)
    iexists (RS2 I (sh 3 c)); iexact T2
  iexists _; iexact Hg

end Run
end Cert.KernelIdeal.Pf
-- ==== Proof.Deal.lean ====
module

public import proofs.«01_k».proof.Proof.Body

/-! # Dealing out the protocol's tokens

At the launch every cell's record is opened for all devices at once; each device keeps its positions, and the duty
tokens go to the devices that pay them. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Deal
variable (I : Dev nD → Ins F)

/-- The semaphores of the heads' copies: those of the keys (`false`) and of the values (`true`). -/
abbrev hsem (p : Fin 4 × Fin 2 × Bool) : SemLoc sig := .dma (if p.2.2 then vS p.1 p.2.1 else kS p.1 p.2.1)
/-- The kernel's own semaphores. -/
abbrev osem : (Fin 4 × Fin 2 × Bool) ⊕ (Bool × Fin 9) → SemLoc sig
  | .inl p => hsem p
  | .inr p => csem (some p)

theorem ownSemFacts : Pipeline.OwnSemFacts cfg0.spec osem := by decide +kernel

theorem csem_injective : Function.Injective csem := by decide +kernel

theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- Which duty of a device's cells: one of the barrier's, or the one of a send or receive cell. -/
abbrev Duty : Type := Fin 3 ⊕ (Bool × Fin 9)
abbrev tokOf (p : Dev nD × Duty) : GSem nD τ sig × ℕ × Fin 3 := match p.2 with
  | .inl d => (barCell p.1, 0, d)
  | .inr k => (kcell (p.1, some k), 0, 0)

theorem tokOf_injective : Function.Injective (tokOf : Dev nD × Duty → GSem nD τ sig × ℕ × Fin 3) := by
  rintro ⟨c, j⟩ ⟨c', j'⟩ h
  rcases j with d | k <;> rcases j' with d' | k'
  · have h1 : c = c' := congrArg (fun x : GSem nD τ sig × ℕ × Fin 3 => x.1.1.1) h
    have h2 : d = d' := congrArg (fun x : GSem nD τ sig × ℕ × Fin 3 => x.2.2) h
    rw [h1, h2]
  · exact absurd (kcell_injective (a₁ := (c, none)) (a₂ := (c', some k')) (congrArg Prod.fst h)) (fun h' => by cases h')
  · exact absurd (kcell_injective (a₁ := (c, some k)) (a₂ := (c', none)) (congrArg Prod.fst h)) (fun h' => by cases h')
  · have h1 := kcell_injective (a₁ := (c, some k)) (a₂ := (c', some k')) (congrArg Prod.fst h)
    have h2 : c = c' := congrArg Prod.fst h1
    have h3 : k = k' := Option.some.inj (congrArg Prod.snd h1)
    rw [h2, h3]

def allCells : Finset (GSem nD τ sig) := Finset.univ.map ⟨kcell, kcell_injective⟩
def allToks : Finset (GSem nD τ sig × ℕ × Fin 3) := Finset.univ.map ⟨tokOf, tokOf_injective⟩

/-- A duty's token. -/
abbrev tok (p : Dev nD × Duty) : sProp 𝕄 := dutyTok ER (tokOf p).1 (tokOf p).2.1 (tokOf p).2.2

/-- What the launch deals a device: the state of its cells, its positions, the tokens of its cells. -/
def G (c : Dev nD) : sProp 𝕄 :=
  iprop((bigSep Finset.univ fun k : Cell => roundState ER (Rd I) (kcell (c, k)) 0)
    ∗ (bigSep Finset.univ fun k : Cell => iprop(atPos ER (kcell (c, k)) 0 ∅ 0 ∗ reached ER (kcell (c, k)) 0))
    ∗ bigSep Finset.univ fun j : Duty => tok (F := F) (c, j))

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : Duty => tok (c, j) := by
    unfold allToks; rw [bigSep_map, bigSep_univ_prod]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Over a device's cells: the barrier's, the send cells', the receive cells'. -/
theorem over_copies (Φ : Bool × Fin 9 → sProp 𝕄) :
    bigSep Finset.univ Φ = iprop((bigSep Finset.univ fun t => Φ (false, t)) ∗ bigSep Finset.univ fun t => Φ (true, t)) := by
  have h := bigSep_univ_eq_bigSepL (M := 𝕄) [false, true] (by decide) (by decide) fun a => bigSep Finset.univ fun t => Φ (a, t)
  rw [bigSep_univ_prod, h]
  simp only [bigSepL_cons_cons, bigSepL_singleton]; rfl
omit [FloatOps F] in
theorem over_cells (Φ : Cell → sProp 𝕄) :
    bigSep Finset.univ Φ = iprop((bigSep Finset.univ fun k => Φ (some k)) ∗ Φ none) := by
  rw [bigSep_univ_equiv (Equiv.optionEquivSumPUnit.{0} (Bool × Fin 9)).symm Φ, bigSep_univ_sum]
  refine congrArg (fun P => BIBase.sep (bigSep Finset.univ fun k => Φ (some k)) P) ?_
  rw [Finset.univ_unique, bigSep_singleton]; rfl

/-- What stays with a device: its positions, the tokens of the duties it pays, the semaphores of its heads' copies. -/
def linear (c : Dev nD) : sProp 𝕄 :=
  iprop((bigSep Finset.univ fun k : Cell => atPos ER (kcell (c, k)) 0 ∅ 0)
    ∗ ((bigSep Finset.univ fun d : Fin 3 => dutyTok ER (barCell (turn (![3, 1, 2] d) c)) 0 d)
      ∗ (bigSep Finset.univ fun t : Fin 9 => dutyTok ER (sCell t c) 0 0) ∗ bigSep Finset.univ fun t : Fin 9 => dutyTok ER (rCell t (dst t c)) 0 0)
    ∗ bigSep Finset.univ fun p => semVal ((c : Thread nD τ), hsem p) 0)

omit [FloatOps F] in
theorem linear_all : (bigSep Finset.univ fun c : Dev nD => (linear c : sProp 𝕄))
    = iprop((bigSep Finset.univ fun c : Dev nD => bigSep Finset.univ fun k : Cell => atPos ER (kcell (c, k)) 0 ∅ 0)
      ∗ (bigSep Finset.univ fun c : Dev nD => iprop((bigSep Finset.univ fun d : Fin 3 => dutyTok ER (barCell (turn (![3, 1, 2] d) c)) 0 d)
        ∗ (bigSep Finset.univ fun t : Fin 9 => dutyTok ER (sCell t c) 0 0) ∗ bigSep Finset.univ fun t : Fin 9 => dutyTok ER (rCell t (dst t c)) 0 0))
      ∗ bigSep Finset.univ fun c : Dev nD => bigSep Finset.univ fun p => semVal ((c : Thread nD τ), hsem p) 0) := by
  unfold linear
  rw [bigSep_sep', bigSep_sep']

omit [FloatOps F] in
/-- The tokens go to the devices that pay them. -/
theorem toks_around : (bigSep Finset.univ fun c : Dev nD => bigSep Finset.univ fun j : Duty => (tok (c, j) : sProp 𝕄))
    = bigSep Finset.univ fun c : Dev nD => iprop((bigSep Finset.univ fun d : Fin 3 => dutyTok ER (barCell (turn (![3, 1, 2] d) c)) 0 d)
      ∗ (bigSep Finset.univ fun t : Fin 9 => dutyTok ER (sCell t c) 0 0) ∗ bigSep Finset.univ fun t : Fin 9 => dutyTok ER (rCell t (dst t c)) 0 0) := by
  have h1 : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (turn (![3, 1, 2] d) c)) 0 d := by
    rw [bigSep_univ_comm, bigSep_univ_comm (fun (c : Dev nD) (d : Fin 3) => (dutyTok ER (barCell (turn (![3, 1, 2] d) c)) 0 d : sProp 𝕄))]
    exact bigSep_congr fun d _ => bigSep_univ_equiv (turn (![3, 1, 2] d)) _
  have h2 : (bigSep Finset.univ fun c : Dev nD => bigSep Finset.univ fun t : Fin 9 => (dutyTok ER (rCell t c) 0 (0 : Fin 3) : sProp 𝕄))
      = bigSep Finset.univ fun c : Dev nD => bigSep Finset.univ fun t : Fin 9 => dutyTok ER (rCell t (dst t c)) 0 0 := by
    rw [bigSep_univ_comm, bigSep_univ_comm (fun (c : Dev nD) (t : Fin 9) => (dutyTok ER (rCell t (dst t c)) 0 (0 : Fin 3) : sProp 𝕄))]
    exact bigSep_congr fun t _ => bigSep_univ_equiv (turn (far t)) _
  rw [bigSep_congr (s := Finset.univ) fun (c : Dev nD) _ => (bigSep_univ_sum fun j : Duty => (tok (c, j) : sProp 𝕄)).trans
    (congrArg (BIBase.sep (bigSep Finset.univ fun d : Fin 3 => (dutyTok ER (barCell c) 0 d : sProp 𝕄))) (over_copies fun k => (tok (c, .inr k) : sProp 𝕄)))]
  rw [bigSep_sep', bigSep_sep', bigSep_sep', bigSep_sep', ← h1, ← h2]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of the heads' copies, all other cells. -/
theorem sems0_eq (c : Dev nD) :
    iprop(Pipeline.ownSems0 (Ix := Unit) (Name := ℕ) (U := UU) (Lvl := ℕ) (Val := Elt F) (τ := τ) osem c ∗ unscopedSems0 c)
      = (iprop((bigSep Finset.univ fun p => semVal ((c : Thread nD τ), hsem p) 0) ∗ bigSep Finset.univ fun k : Cell => semVal (kcell (c, k)) 0) : sProp 𝕄) := by
  have e : (Pipeline.ownSems0 (Ix := Unit) (Name := ℕ) (U := UU) (Lvl := ℕ) (Val := Elt F) (τ := τ) osem c : sProp 𝕄)
      = iprop((bigSep Finset.univ fun p => semVal ((c : Thread nD τ), hsem p) 0) ∗ bigSep Finset.univ fun j : Bool × Fin 9 => semVal (kcell (c, some j)) 0) := by
    unfold Pipeline.ownSems0
    exact bigSep_univ_sum _
  rw [unscopedSems0_eq, over_cells, e]
  exact BI.equiv_iff.mp ⟨by
    show (_ : sProp 𝕄) ⊢ _
    iintro ⟨⟨H1, H2⟩, H3⟩
    isplitl [H1]; · iexact H1
    isplitl [H2]; · iexact H2
    iexact H3, by
    show (_ : sProp 𝕄) ⊢ _
    iintro ⟨H1, H2, H3⟩
    isplitl [H1 H2]
    · isplitl [H1]; · iexact H1
      iexact H2
    iexact H3⟩

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Cell => iprop(∃ κ : ℕ, cellInv ER (Rd I) κ (kcell (c, k))))
          ∗ (bigSep Finset.univ fun k : Cell => iprop(atPos ER (kcell (c, k)) 0 ∅ 0 ∗ reached ER (kcell (c, k)) 0)) ∗ (bigSep Finset.univ fun j : Duty => tok (F := F) (c, j))
          ∗ bigSep Finset.univ fun p => semVal ((c : Thread nD τ), hsem p) 0) := by
  unfold G
  iintro ⟨Hos, Hus, Hst, Hat, Htok⟩
  ihave Hv := (Entails.of_eq (sems0_eq (F := F) c)) $$ [Hos Hus]
  · isplitl [Hos] <;> iassumption
  icases Hv with ⟨Hh, Hv⟩
  imod (show iprop((bigSep Finset.univ fun k : Cell => semVal (kcell (c, k)) 0) ∗ bigSep Finset.univ fun k : Cell => roundState ER (Rd I) (kcell (c, k)) 0)
      ⊢ (|={Set.univ}=> bigSep Finset.univ fun k : Cell => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hh

/-- What the global step makes for a device: the records of all cells, at some names, and its own part. -/
def G' (c : Dev nD) : sProp 𝕄 := iprop(∃ K, recs I K ∗ linear c)

omit [FloatOps F] in
theorem with_persistent {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Cell => iprop(∃ κ : ℕ, cellInv ER (Rd I) κ (kcell (c, k))))
          ∗ (bigSep Finset.univ fun k : Cell => iprop(atPos ER (kcell (c, k)) 0 ∅ 0 ∗ reached ER (kcell (c, k)) 0)) ∗ (bigSep Finset.univ fun j : Duty => tok (F := F) (c, j))
          ∗ bigSep Finset.univ fun p => semVal ((c : Thread nD τ), hsem p) 0) : sProp 𝕄)
      ⊢ bigSep Finset.univ (G' I) := by
  rw [bigSep_sep', bigSep_sep', bigSep_sep', ← bigSep_univ_prod (fun ck : Dev nD × Cell => iprop(∃ κ : ℕ, cellInv ER (Rd I) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  iintro ⟨HI, ⟨Hat, #HR⟩, Htok, Hh⟩
  ihave HK := (BI.bigSep_exists_pi Finset.univ (fun (ck : Dev nD × Cell) (κ : ℕ) => (cellInv ER (Rd I) κ (kcell ck) : sProp 𝕄))) $$ HI
  icases HK with ⟨%K, #HI⟩
  iapply (with_persistent (R := recs I K) (Φ := linear) fun c => show iprop(recs I K ∗ linear c) ⊢ G' I c from by
    unfold G'; iintro H; iexists K; iexact H)
  isplitr
  · unfold recs; isplitl; · iexact HI
    iexact HR
  · iapply (Entails.of_eq (linear_all (F := F)).symm)
    isplitl [Hat]; · iexact Hat
    isplitl [Htok] <;> iassumption

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Deal

/-! ## The launch's credit -/

/-- A sum over the devices with one term, at the device a permutation takes to `a`. -/
theorem sum_turn (e : Dev nD ≃ Dev nD) (a : Dev nD) (n : ℕ) : (Finset.univ.sum fun d => if a = e d then n else 0) = n := by
  rw [Equiv.sum_comp e fun d => if a = d then n else 0, Finset.sum_ite_eq Finset.univ a fun _ => n, if_pos (Finset.mem_univ _)]

theorem cell_eq_iff {c d : Dev nD} {k k' : Cell} : (kcell (c, k) = kcell (d, k')) ↔ (k = k' ∧ c = d) :=
  ⟨fun h => have h' := kcell_injective h; ⟨congrArg Prod.snd h', congrArg Prod.fst h'⟩, fun ⟨h, h'⟩ => by rw [h, h']⟩

/-- A tally at one cell, read at a cell. -/
theorem tally_cell (c d : Dev nD) (k k' : Cell) (n : ℕ) :
    (tallyAt (kcell (d, k')) () n : CellTallies nD τ sig Unit) (kcell (c, k)) () = if k = k' then (if c = d then n else 0) else 0 := by
  rw [tallyAt_apply]
  by_cases h : k = k'
  · by_cases h' : c = d
    · rw [if_pos ⟨cell_eq_iff.mpr ⟨h, h'⟩, rfl⟩, if_pos h, if_pos h']
    · rw [if_neg fun e => h' (cell_eq_iff.mp e.1).2, if_pos h, if_neg h']
  · rw [if_neg fun e => h (cell_eq_iff.mp e.1).1, if_neg h]

theorem sum_tally (e : Dev nD ≃ Dev nD) (c : Dev nD) (k k' : Cell) (n : ℕ) :
    (Finset.univ.sum fun d => (tallyAt (kcell (e d, k')) () n : CellTallies nD τ sig Unit) (kcell (c, k)) ()) = if k = k' then n else 0 := by
  rw [Finset.sum_congr rfl fun d _ => tally_cell c (e d) k k' n]
  by_cases h : k = k'
  · simp only [if_pos h]; exact sum_turn e c n
  · simp only [if_neg h]; exact Finset.sum_const_zero

/-- All devices together owe a barrier cell three units, and a receive cell its copy's credit. -/
theorem sum_owed (c : Dev nD) (k : Cell) :
    (Finset.univ.sum fun d => O₀ d (kcell (c, k)) ()) = (match k with | none => 3 | some (true, t) => amt t | some (false, _) => 0) := by
  have h (d : Dev nD) : O₀ d (kcell (c, k)) () = ((Finset.univ : Finset (Fin 9)).sum fun t => (tallyAt (kcell (turn (far t) d, some (true, t))) () (amt t) : CellTallies nD τ sig Unit) (kcell (c, k)) ())
      + ((tallyAt (kcell (turn 2 d, none)) () 1 : CellTallies nD τ sig Unit) (kcell (c, k)) () + (tallyAt (kcell (turn 1 d, none)) () 1 : CellTallies nD τ sig Unit) (kcell (c, k)) ()
        + (tallyAt (kcell (turn 3 d, none)) () 1 : CellTallies nD τ sig Unit) (kcell (c, k)) ()) := by
    have h9 : Ow d 9 (kcell (c, k)) () = (Finset.univ : Finset (Fin 9)).sum fun t => (tallyAt (kcell (turn (far t) d, some (true, t))) () (amt t) : CellTallies nD τ sig Unit) (kcell (c, k)) () := by
      have key : ∀ f : Fin 9 → ℕ, 0 + f 8 + f 7 + f 6 + f 5 + f 4 + f 3 + f 2 + f 1 + f 0 = Finset.univ.sum f := fun f => by
        rw [Fin.sum_univ_succ, Fin.sum_univ_eight]
        show _ = f 0 + (f 1 + f 2 + f 3 + f 4 + f 5 + f 6 + f 7 + f 8)
        omega
      exact key fun t => (tallyAt (kcell (turn (far t) d, some (true, t))) () (amt t) : CellTallies nD τ sig Unit) (kcell (c, k)) ()
    unfold O₀
    simp only [Pi.add_apply, Finsupp.add_apply]
    rw [h9]
    simp only [Nat.add_assoc]
    rfl
  rw [Finset.sum_congr rfl fun d _ => h d, Finset.sum_add_distrib, Finset.sum_add_distrib, Finset.sum_add_distrib, Finset.sum_comm,
    Finset.sum_congr rfl fun t _ => sum_tally (turn (far t)) c k (some (true, t)) (amt t), sum_tally, sum_tally, sum_tally]
  match k with
  | none => rfl
  | some (false, t) =>
    rw [Finset.sum_congr rfl fun t' _ => if_neg (show ¬ (some (false, t) : Cell) = some (true, t') from fun h => by cases h), Finset.sum_const_zero]; rfl
  | some (true, t) =>
    rw [Finset.sum_congr rfl fun t' _ => if_congr (show (some (true, t) : Cell) = some (true, t') ↔ t = t' from ⟨fun h => by cases h; rfl, fun h => by rw [h]⟩) rfl rfl,
      Finset.sum_ite_eq, if_pos (Finset.mem_univ _)]
    rfl

theorem launch_cell (c : Dev nD) (k : Cell) (n : ℕ) (h : (Finset.univ.sum fun d => O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

omit [FloatOps F] in
/-- A device starts with its barrier's three units and the credit of the copies onto it. -/
theorem creds (c : Dev nD) :
    (Pipeline.launchCred O₀ c : sProp 𝕄) ⊢ iprop(cred (tallyAt (barCell c) () 3) ∗ bigSep Finset.univ fun t : Fin 9 => cred (tallyAt (rCell t c) () (amt t))) := by
  have hs : (Finset.univ.map ⟨csem, csem_injective⟩ : Finset (SemLoc sig)) ⊆ Finset.univ := Finset.subset_univ _
  have h1 : (Pipeline.launchCred O₀ c : sProp 𝕄) ⊢ iprop(((bigSep Finset.univ fun t : Fin 9 => cred (tallyOn (sCell t c) (launchCredit (Pipeline.owing O₀) 0 (sCell t c))))
        ∗ bigSep Finset.univ fun t : Fin 9 => cred (tallyOn (rCell t c) (launchCredit (Pipeline.owing O₀) 0 (rCell t c))))
      ∗ cred (tallyOn (barCell c) (launchCredit (Pipeline.owing O₀) 0 (barCell c)))) := by
    have e := bigSep_map (M := 𝕄) (s := Finset.univ) ⟨csem, csem_injective⟩
      (Φ := fun sm : SemLoc sig => (cred (tallyOn ((c : Thread nD τ), sm) (launchCredit (Pipeline.owing O₀) 0 ((c : Thread nD τ), sm))) : sProp 𝕄))
    rw [over_cells, over_copies] at e
    exact (show (Pipeline.launchCred O₀ c : sProp 𝕄) ⊢ _ from bigSep_subset hs).trans (show _ ⊢ _ from Entails.of_eq e)
  have h2 : (bigSep Finset.univ fun t : Fin 9 => cred (tallyOn (rCell t c) (launchCredit (Pipeline.owing O₀) 0 (rCell t c))) : sProp 𝕄)
      ⊢ bigSep Finset.univ fun t : Fin 9 => cred (tallyAt (rCell t c) () (amt t)) :=
    bigSep_mono fun t _ => Entails.of_eq (congrArg (fun x => (cred x : sProp 𝕄)) (launch_cell c (some (true, t)) (amt t) (sum_owed c (some (true, t)))))
  iintro H
  ihave H := h1 $$ H
  icases H with ⟨⟨-, Hr⟩, Hb⟩
  isplitl [Hb]
  · iapply (Entails.of_eq (congrArg (fun x => (cred x : sProp 𝕄)) (launch_cell c none 3 (sum_owed c none)))); iexact Hb
  · iapply h2; iexact Hr

end Cert.KernelIdeal.Pf
-- ==== Proof.Wholes.lean ====
module

public import proofs.«01_k».proof.Proof.Deal

/-! # From whole buffers to the body's places and back -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Wholes
variable (c : Dev nD)

/-- The buffers the kernel works in, each whole at some contents. -/
def wholes : sProp 𝕄 :=
  iprop((∃ X, owns (c : Thread nD τ) (Memref.whole cc0_scratch0) fullShare X) ∗ (∃ X, owns (c : Thread nD τ) (Memref.whole cc0_scratch1) fullShare X)
    ∗ (∃ X, owns (c : Thread nD τ) (Memref.whole cc0_scratch2) fullShare X) ∗ (∃ X, owns (c : Thread nD τ) (Memref.whole cc0_scratch3) fullShare X)
    ∗ (∃ X, owns (c : Thread nD τ) (Memref.whole cc0_scratch4) fullShare X) ∗ (∃ X, owns (c : Thread nD τ) (Memref.whole cc0_scratch5) fullShare X)
    ∗ (∃ X, owns (c : Thread nD τ) (Memref.whole cc0_scratch6) fullShare X) ∗ (∃ X, owns (c : Thread nD τ) (Memref.whole cc0_scratch7) fullShare X)
    ∗ (∃ X, owns (c : Thread nD τ) (Memref.whole cc0_scratch8) fullShare X) ∗ (∃ X, owns (c : Thread nD τ) (Memref.whole cc0_scratch9) fullShare X)
    ∗ (∃ X, owns (c : Thread nD τ) (Memref.whole cc0_scratch10) fullShare X) ∗ ∃ X, owns (c : Thread nD τ) (Memref.whole cc0_scratch11) fullShare X)

omit [FloatOps F] in
/-- The buffers the launch hands over are these. -/
theorem scoped_eq : (Pipeline.scopedRest (Ix := Unit) (Name := ℕ) (U := UU) (Lvl := ℕ) (Val := Elt F) spec0 c : sProp 𝕄) = wholes c := by
  rw [scopedRest0_eq]; unfold wholes; simp only [owns_whole]

omit [FloatOps F] in
theorem two (P : Fin 2 → sProp 𝕄) : bigSep Finset.univ P = iprop(P 0 ∗ P 1) := by
  have := bigSep_univ_eq_bigSepL (M := 𝕄) [0, 1] (by decide) (by decide) P
  rw [this]
  simp only [bigSepL_cons_cons, bigSepL_singleton]; rfl
omit [FloatOps F] in
theorem three (P : Fin 3 → sProp 𝕄) : bigSep Finset.univ P = iprop(P 0 ∗ P 1 ∗ P 2) := by
  have := bigSep_univ_eq_bigSepL (M := 𝕄) [0, 1, 2] (by decide) (by decide) P
  rw [this]
  simp only [bigSepL_cons_cons, bigSepL_singleton]; rfl
omit [FloatOps F] in
theorem bools (P : Bool → sProp 𝕄) : bigSep Finset.univ P = iprop(P false ∗ P true) := by
  have := bigSep_univ_eq_bigSepL (M := 𝕄) [false, true] (by decide) (by decide) P
  rw [this]
  simp only [bigSepL_cons_cons, bigSepL_singleton]; rfl

/-- The slots of the fetched keys and of the fetched values. -/
def kvAny : sProp 𝕄 :=
  iprop((bigSep Finset.univ fun i : Fin 8 => iprop(∃ X, owns (c : Thread nD τ) (kH i) fullShare X))
    ∗ bigSep Finset.univ fun i : Fin 8 => iprop(∃ X, owns (c : Thread nD τ) (vH i) fullShare X))
/-- The landing places of the three hops. -/
def rsAny : sProp 𝕄 := iprop(any c (rsBuf 0) ∗ any c (rsBuf 1) ∗ any c (rsBuf 2))
def agAny : sProp 𝕄 := iprop(∃ X, owns (c : Thread nD τ) (Memref.whole cc0_scratch11) fullShare X)

theorem wholes_open : wholes c ⊢ (iprop(bufB c ∗ kvAny c ∗ rsAny c ∗ agAny c) : sProp 𝕄) := by
  unfold wholes bufB kvAny rsAny agAny
  rw [kH_parts, vH_parts, kB_parts, vA_parts, rsOut_parts, rsBuf_parts, two, two, three, three]
  iintro ⟨H0, H1, H2, H3, H4, ⟨H5, H5'⟩, ⟨H6, H6'⟩, H7, H8, ⟨H9, H9', H9''⟩, H10, H11⟩
  isplitl [H0 H1 H2 H5 H5' H6 H6' H7 H8 H9 H9' H9'']
  · isplitl [H0]; · iexact H0
    isplitl [H1]; · iexact H1
    isplitl [H2]; · iexact H2
    isplitl [H7]; · iexact H7
    isplitl [H8]; · iexact H8
    isplitl [H5]; · iexact H5
    isplitl [H6]; · iexact H6
    isplitl [H5']; · iexact H5'
    isplitl [H6']; · iexact H6'
    isplitl [H9]; · iexact H9
    isplitl [H9']; · iexact H9'
    iexact H9''
  isplitl [H3 H4]
  · isplitl [H3]; · iexact H3
    iexact H4
  isplitl [H10]; · iexact H10
  iexact H11

theorem wholes_close : (iprop(bufB c ∗ kvAny c ∗ rsAny c ∗ agAny c) : sProp 𝕄) ⊢ wholes c := by
  unfold wholes bufB kvAny rsAny agAny
  rw [kH_parts, vH_parts, kB_parts, vA_parts, rsOut_parts, rsBuf_parts, two, two, three, three]
  iintro ⟨⟨H0, H1, H2, H7, H8, H5, H6, H5', H6', H9⟩, ⟨H3, H4⟩, H10, H11⟩
  isplitl [H0]; · iexact H0
  isplitl [H1]; · iexact H1
  isplitl [H2]; · iexact H2
  isplitl [H3]; · iexact H3
  isplitl [H4]; · iexact H4
  isplitl [H5 H5']
  · isplitl [H5]; · iexact H5
    iexact H5'
  isplitl [H6 H6']
  · isplitl [H6]; · iexact H6
    iexact H6'
  isplitl [H7]; · iexact H7
  isplitl [H8]; · iexact H8
  isplitl [H9]; · iexact H9
  isplitl [H10]; · iexact H10
  iexact H11

omit [FloatOps F] in
/-- The eight slots, batch block by batch block. -/
theorem slots (P : Fin 8 → sProp 𝕄) : bigSep Finset.univ P = bigSep Finset.univ fun b : Fin 4 => iprop(P (slot b 0) ∗ P (slot b 1)) := by
  have e : ∀ (b : Fin 4) (r : Fin 2), (finProdFinEquiv : Fin 4 × Fin 2 ≃ Fin 8) (b, r) = slot b r := by decide
  rw [bigSep_univ_equiv (finProdFinEquiv : Fin 4 × Fin 2 ≃ Fin 8) P, bigSep_univ_prod]
  refine bigSep_congr fun b _ => ?_
  rw [two, e, e]

omit [FloatOps F] in
/-- The semaphores of the heads' copies, batch block by batch block. -/
theorem hsems_eq : (bigSep Finset.univ fun p => (semVal ((c : Thread nD τ), hsem p) 0 : sProp 𝕄))
    = bigSep Finset.univ fun b : Fin 4 => iprop((semVal ((c : Thread nD τ), .dma (kS b 0)) 0 ∗ semVal ((c : Thread nD τ), .dma (vS b 0)) 0)
        ∗ semVal ((c : Thread nD τ), .dma (kS b 1)) 0 ∗ semVal ((c : Thread nD τ), .dma (vS b 1)) 0) := by
  rw [bigSep_univ_prod]
  refine bigSep_congr fun b _ => ?_
  rw [bigSep_univ_prod, two, bools, bools]
  rfl

theorem heads_one (b : Fin 4) : (hsB c b : sProp 𝕄) = iprop(((∃ X, owns (c : Thread nD τ) (kH (slot b 0)) fullShare X) ∗ ∃ X, owns (c : Thread nD τ) (kH (slot b 1)) fullShare X)
    ∗ ((∃ X, owns (c : Thread nD τ) (vH (slot b 0)) fullShare X) ∗ ∃ X, owns (c : Thread nD τ) (vH (slot b 1)) fullShare X)
    ∗ (semVal ((c : Thread nD τ), .dma (kS b 0)) 0 ∗ semVal ((c : Thread nD τ), .dma (vS b 0)) 0)
        ∗ semVal ((c : Thread nD τ), .dma (kS b 1)) 0 ∗ semVal ((c : Thread nD τ), .dma (vS b 1)) 0) := by
  unfold hsB hs
  refine BI.equiv_iff.mp ⟨?_, ?_⟩
  · show (_ : sProp 𝕄) ⊢ _
    iintro ⟨⟨A, B, C, D⟩, A', B', C', D'⟩
    isplitl [A A']
    · isplitl [A]; · iexact A
      iexact A'
    isplitl [B B']
    · isplitl [B]; · iexact B
      iexact B'
    isplitl [C D]
    · isplitl [C]; · iexact C
      iexact D
    isplitl [C']; · iexact C'
    iexact D'
  · show (_ : sProp 𝕄) ⊢ _
    iintro ⟨⟨A, A'⟩, ⟨B, B'⟩, ⟨C, D⟩, C', D'⟩
    isplitl [A B C D]
    · isplitl [A]; · iexact A
      isplitl [B]; · iexact B
      isplitl [C]; · iexact C
      iexact D
    isplitl [A']; · iexact A'
    isplitl [B']; · iexact B'
    isplitl [C']; · iexact C'
    iexact D'

/-- The heads' places and semaphores, all together. -/
theorem heads_eq : (bigSep Finset.univ (hsB c) : sProp 𝕄) = iprop(((bigSep Finset.univ fun i : Fin 8 => iprop(∃ X, owns (c : Thread nD τ) (kH i) fullShare X))
    ∗ (bigSep Finset.univ fun i : Fin 8 => iprop(∃ X, owns (c : Thread nD τ) (vH i) fullShare X)) ∗ bigSep Finset.univ fun p => semVal ((c : Thread nD τ), hsem p) 0)) := by
  rw [slots, slots, hsems_eq, ← bigSep_sep', ← bigSep_sep']
  exact bigSep_congr fun b _ => heads_one c b

/-- The halves of the buffer of finished blocks, as they are dealt through the barrier. -/
theorem halves_eq : (agAny c : sProp 𝕄) = iprop((any c (agH 0 0) ∗ any c (agH 0 1)) ∗ (any c (agH 1 0) ∗ any c (agH 1 1))
    ∗ (any c (agH 2 0) ∗ any c (agH 2 1)) ∗ any c (agH 3 0) ∗ any c (agH 3 1)) := by
  unfold agAny
  rw [agH_parts, bigSep_univ_prod, blocks, two, two, two, two]

end Wholes
end Cert.KernelIdeal.Pf
-- ==== Proof.Launched.lean ====
module

public import proofs.«01_k».proof.Proof.Wholes
public import proofs.«01_k».proof.Proof.Gen.KernelIdeal.Points
public import Idealize.ShloMosaic.Lib.Pipeline.Launch
public import Idealize.ShloMosaic.Lib.Pipeline.CollectiveSegs
public import Idealize.ShloMosaic.Lib.Pipeline.ValueKit

/-! # The launch

The run of the whole program on all four devices, from any memory with zero counters: every device's result array ends
at `OUT`, its arguments are unchanged, every semaphore counter ends at zero. -/

@[expose] public section
set_option maxRecDepth 16384
noncomputable section

namespace Cert.KernelIdeal.Pf

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Launch
variable (m : (ℓ : Loc nD τ sig) → Buf (Elt F) ℓ) (ρ : Dev nD → PrngReg)

/-- The state at the launch. -/
def s₁ : MemSt nD τ sig (Elt F) := ⟨m, fun _ => 0, ρ⟩

/-- The arguments of device `c`, as the body reads them. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg4))
  kk := m ((c : Thread nD τ).loc main_arg2)
  vv := m ((c : Thread nD τ).loc main_arg3)

/-- The keys and the values, in place. -/
def kvB (c : Dev nD) (q : PosShare TreeShare) : sProp 𝕄 :=
  iprop(owns (c : Thread nD τ) kA q (ins m c).kk ∗ owns (c : Thread nD τ) vAr q (ins m c).vv)

/-- What the launch gives a device. -/
def start (c : Dev nD) : sProp 𝕄 :=
  iprop(G' (ins m) c ∗ (cred (tallyAt (barCell c) () 3) ∗ bigSep Finset.univ fun t : Fin 9 => cred (tallyAt (rCell t c) () (amt t)))
    ∗ levAts L lv ∗ kvB m c fullShare)
/-- What leaves with a device: the barrier's counter at zero, the keys and values unchanged. -/
def ended (c : Dev nD) : sProp 𝕄 := iprop(unscopedSems0 c ∗ ∃ q, kvB m c q)

def Φ₀ (c : Dev nD) : sProp 𝕄 := iprop(start m c ∗ wholes c)
def Φ₁ (c : Dev nD) : sProp 𝕄 := iprop(ended m c ∗ Pipeline.ownSems0 osem c ∗ wholes c)

def dats (_ : Fin 1) (c : Dev nD) : Pipeline.Dat τ (Elt F) Unit ℕ UU ℕ cfg0 c where
  A w := (s₁ m ρ).mem ((cfg0.win w).arr.view.loc (c : Thread nD τ))
  after w _ := match w with
    | ⟨0, _⟩ => (ins m c).x
    | ⟨1, _⟩ => (ins m c).wq
    | ⟨2, _⟩ => (ins m c).wo
    | ⟨3, _⟩ => OUT (ins m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Into the body: what the launch gave, the staged arguments and the result's place. -/
theorem entry (c : Dev nD) :
    (iprop(Φ₀ m c ∗ (∃ W, owes (c : Thread nD τ) (O₀ c) W) ∗ owns (c : Thread nD τ) xM fullShare (ins m c).x ∗ owns (c : Thread nD τ) qM fullShare (ins m c).wq
        ∗ owns (c : Thread nD τ) oM fullShare (ins m c).wo ∗ ∃ Y, owns (c : Thread nD τ) yM fullShare Y) : sProp 𝕄)
      ⊢ iprop(∃ K, bodyPre (ins m) K c) := by
  have hlin : (linear c : sProp 𝕄) ⊢ iprop((((bigSep Finset.univ fun t : Fin 9 => atPos ER (sCell t c) 0 ∅ 0) ∗ bigSep Finset.univ fun t : Fin 9 => atPos ER (rCell t c) 0 ∅ 0) ∗ atPos ER (barCell c) 0 ∅ 0)
      ∗ ((dutyTok ER (barCell (sh 3 c)) 0 0 ∗ dutyTok ER (barCell (sh 1 c)) 0 1 ∗ dutyTok ER (barCell (sh 2 c)) 0 2)
        ∗ (bigSep Finset.univ fun t : Fin 9 => dutyTok ER (sCell t c) 0 0) ∗ bigSep Finset.univ fun t : Fin 9 => dutyTok ER (rCell t (dst t c)) 0 0)
      ∗ bigSep Finset.univ fun p => semVal ((c : Thread nD τ), hsem p) 0) :=
    Entails.of_eq (by unfold linear; rw [over_cells, over_copies, three]; rfl)
  have hfr : (bigSep Finset.univ (fr c) : sProp 𝕄) = iprop((bigSep Finset.univ fun t : Fin 9 => dutyTok ER (sCell t c) 0 0) ∗ (bigSep Finset.univ fun t : Fin 9 => dutyTok ER (rCell t (dst t c)) 0 0)
      ∗ bigSep Finset.univ fun t : Fin 9 => atPos ER (sCell t c) 0 ∅ 0) := by
    unfold fr; rw [bigSep_sep', bigSep_sep']
  have hrv : (bigSep Finset.univ (rv c) : sProp 𝕄) = iprop((bigSep Finset.univ fun t : Fin 9 => cred (tallyAt (rCell t c) () (amt t))) ∗ bigSep Finset.univ fun t : Fin 9 => atPos ER (rCell t c) 0 ∅ 0) := by
    unfold rv; rw [bigSep_sep']
  have hb0 : (barPay (sh 3 c) 0 : sProp 𝕄) = iprop(any c (rsBuf 0) ∗ any c (rsBuf 1) ∗ any c (rsBuf 2) ∗ any c (agH 1 0) ∗ any c (agH 1 1)) := by
    show iprop(any (sh 1 (sh 3 c)) (rsBuf 0) ∗ any (sh 1 (sh 3 c)) (rsBuf 1) ∗ any (sh 1 (sh 3 c)) (rsBuf 2) ∗ any (sh 1 (sh 3 c)) (agH 1 0) ∗ any (sh 1 (sh 3 c)) (agH 1 1)) = _
    rw [sh13]
  have hb1 : (barPay (sh 1 c) 1 : sProp 𝕄) = iprop(any c (agH 2 0) ∗ any c (agH 2 1)) := by
    show iprop(any (sh 3 (sh 1 c)) (agH 2 0) ∗ any (sh 3 (sh 1 c)) (agH 2 1)) = _
    rw [sh31]
  have hb2 : (barPay (sh 2 c) 2 : sProp 𝕄) = iprop(any c (agH 3 0) ∗ any c (agH 3 1)) := by
    show iprop(any (sh 2 (sh 2 c)) (agH 3 0) ∗ any (sh 2 (sh 2 c)) (agH 3 1)) = _
    rw [sh22]
  unfold Φ₀ start G' kvB
  iintro ⟨⟨⟨⟨%K, HR, Hl⟩, ⟨Hcb, Hcr⟩, Hlev, HK, HV⟩, Hw⟩, HO, Hx, Hq, Ho, Hy⟩
  iexists K
  ihave Hl := hlin $$ Hl
  icases Hl with ⟨⟨⟨Hps, Hpr⟩, Hpb⟩, ⟨⟨T0, T1, T2⟩, Hds, Hdr⟩, Hh⟩
  ihave Hw := (wholes_open c) $$ Hw
  icases Hw with ⟨Hbuf, Hkv, Hrs, Hag⟩
  ihave Hag := (Entails.of_eq (halves_eq c)) $$ Hag
  icases Hag with ⟨⟨A0, A0'⟩, ⟨A1, A1'⟩, A2, A3⟩
  unfold kvAny rsAny
  icases Hkv with ⟨HkH, HvH⟩
  icases Hrs with ⟨R0, R1, R2⟩
  unfold bodyPre barB argsB
  rw [hfr, hrv, heads_eq, hb0, hb1, hb2]
  isplitl [HR]; · iexact HR
  isplitl [Hlev]; · iexact Hlev
  isplitl [HO]; · iexact HO
  isplitl [Hcb Hpb T0 T1 T2 R0 R1 R2 A1 A1' A2 A3]
  · isplitl [Hcb Hpb]
    · isplitl [Hcb]; · iexact Hcb
      iexact Hpb
    isplitl [T0 R0 R1 R2 A1 A1']
    · isplitl [T0]; · iexact T0
      isplitl [R0]; · iexact R0
      isplitl [R1]; · iexact R1
      isplitl [R2]; · iexact R2
      isplitl [A1]; · iexact A1
      iexact A1'
    isplitl [T1 A2]
    · isplitl [T1]; · iexact T1
      iexact A2
    isplitl [T2]; · iexact T2
    iexact A3
  isplitl [Hds Hdr Hps]
  · isplitl [Hds]; · iexact Hds
    isplitl [Hdr]; · iexact Hdr
    iexact Hps
  isplitl [Hcr Hpr]
  · isplitl [Hcr]; · iexact Hcr
    iexact Hpr
  isplitl [HkH HvH Hh]
  · isplitl [HkH]; · iexact HkH
    isplitl [HvH]; · iexact HvH
    iexact Hh
  isplitl [HK HV Hx Hq Ho]
  · isplitl [HK HV]
    · isplitl [HK]; · iexact HK
      iexact HV
    isplitl [Hx]; · iexact Hx
    isplitl [Hq]; · iexact Hq
    iexact Ho
  isplitl [Hy]; · iexact Hy
  isplitl [Hbuf]; · iexact Hbuf
  isplitl [A0]; · iexact A0
  iexact A0'

/-- Out of the body: the arguments back, the result in its place, and what leaves the region. -/
theorem leave (c : Dev nD) : (bodyPost (ins m) c : sProp 𝕄)
    ⊢ iprop(Φ₁ m c ∗ (∃ W, owes (c : Thread nD τ) 0 W) ∗ owns (c : Thread nD τ) xM fullShare (ins m c).x ∗ owns (c : Thread nD τ) qM fullShare (ins m c).wq
        ∗ owns (c : Thread nD τ) oM fullShare (ins m c).wo ∗ owns (c : Thread nD τ) yM fullShare (OUT (ins m) c)) := by
  have hs := Entails.of_eq (sems0_eq (F := F) c).symm
  rw [over_cells, over_copies] at hs
  have hc := wholes_close (F := F) c
  unfold kvAny rsAny agAny at hc
  unfold bodyPost argsB
  rw [heads_eq, bigSep_sep', show Ow c 0 = 0 from rfl]
  unfold Φ₁ ended kvB
  iintro ⟨HO, Hbar, ⟨Hss, Hsr⟩, ⟨HkH, HvH, Hh⟩, ⟨%q, ⟨HK, HV⟩, Hx, Hq, Ho⟩, Hy, Hbuf, Hrs, Hag⟩
  ihave Hsem := hs $$ [Hbar Hss Hsr Hh]
  · isplitl [Hh]; · iexact Hh
    isplitl [Hss Hsr]
    · isplitl [Hss]; · iexact Hss
      iexact Hsr
    iexact Hbar
  icases Hsem with ⟨Hos, Hus⟩
  ihave Hw := hc $$ [Hbuf HkH HvH Hrs Hag]
  · isplitl [Hbuf]; · iexact Hbuf
    isplitl [HkH HvH]
    · isplitl [HkH]; · iexact HkH
      iexact HvH
    isplitl [Hrs]; · iexact Hrs
    iexact Hag
  isplitl [Hus HK HV Hos Hw]
  · isplitl [Hus HK HV]
    · isplitl [Hus]; · iexact Hus
      iexists q
      isplitl [HK]; · iexact HK
      iexact HV
    isplitl [Hos]; · iexact Hos
    iexact Hw
  isplitl [HO]; · iexact HO
  isplitl [Hx]; · iexact Hx
  isplitl [Hq]; · iexact Hq
  isplitl [Ho]; · iexact Ho
  iexact Hy

theorem before_0 (c : Dev nD) (t : Fin cfg0.N) (d) : (dats m ρ 0 c).before (0 : Fin 4) t d = (ins m c).x := by
  unfold Pipeline.Dat.before; rw [if_pos (fetch0_0 t), fin_N0 t]; rfl
theorem before_1 (c : Dev nD) (t : Fin cfg0.N) (d) : (dats m ρ 0 c).before (1 : Fin 4) t d = (ins m c).wq := by
  unfold Pipeline.Dat.before; rw [if_pos (fetch0_1 t), fin_N0 t]; rfl
theorem before_2 (c : Dev nD) (t : Fin cfg0.N) (d) : (dats m ρ 0 c).before (2 : Fin 4) t d = (ins m c).wo := by
  unfold Pipeline.Dat.before; rw [if_pos (fetch0_2 t), fin_N0 t]; rfl

set_option maxHeartbeats 1600000 in
/-- The library's obligation on the body. -/
theorem body_ok (c : Dev nD) : Pipeline.BodyObligation (dats (F := F) m ρ 0 c) (defs₀ (F := F)) 𝒱₀ () Set.univ := fun t => by
  rw [fin_N0 t]
  rw [bigSep_W0, bigSep_W0]
  show iprop(Φ₀ m c ∗ (dats m ρ 0 c).owesAt () t0_0.castSucc
      ∗ (∃ d, owns (c : Thread nD τ) xM fullShare ((dats m ρ 0 c).before (0 : Fin 4) t0_0 d)) ∗ (∃ d, owns (c : Thread nD τ) qM fullShare ((dats m ρ 0 c).before (1 : Fin 4) t0_0 d))
      ∗ (∃ d, owns (c : Thread nD τ) oM fullShare ((dats m ρ 0 c).before (2 : Fin 4) t0_0 d)) ∗ (∃ d, owns (c : Thread nD τ) yM fullShare ((dats m ρ 0 c).before (3 : Fin 4) t0_0 d)))
    ⊢ wp frame (wpE (defs₀ (F := F)) 𝒱₀ (c : Thread nD τ) none) Set.univ
      (cc0_body (F := F) xM (Memref.isWhole_whole _) qM (Memref.isWhole_whole _) oM (Memref.isWhole_whole _) kA (Memref.isWhole_whole _) vAr (Memref.isWhole_whole _) yM (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        (Memref.whole cc0_scratch6) (Memref.isWhole_whole _) (Memref.whole cc0_scratch7) (Memref.isWhole_whole _) (Memref.whole cc0_scratch8) (Memref.isWhole_whole _)
        (Memref.whole cc0_scratch9) (Memref.isWhole_whole _) (Memref.whole cc0_scratch10) (Memref.isWhole_whole _) (Memref.whole cc0_scratch11) (Memref.isWhole_whole _)
        cc0_scratch12 cc0_scratch13 cc0_scratch14 cc0_scratch15)
      (fun _ => iprop(Φ₁ m c ∗ (dats m ρ 0 c).owesAt () t0_0.succ
        ∗ owns (c : Thread nD τ) xM fullShare (ins m c).x ∗ owns (c : Thread nD τ) qM fullShare (ins m c).wq
        ∗ owns (c : Thread nD τ) oM fullShare (ins m c).wo ∗ owns (c : Thread nD τ) yM fullShare (OUT (ins m) c)))
  unfold Pipeline.Dat.owesAt Pipeline.owesWithin
  rw [show (dats m ρ 0 c).owed t0_0.castSucc = O₀ c from rfl, show (dats m ρ 0 c).owed t0_0.succ = 0 from rfl]
  simp only [before_0, before_1, before_2]
  iintro ⟨HΦ, ⟨%W, %hW, HO⟩, ⟨%d0, Hx⟩, ⟨%d1, Hq⟩, ⟨%d2, Ho⟩, ⟨%d3, Hy⟩⟩
  ihave H := (entry m c) $$ [HΦ HO Hx Hq Ho Hy]
  · isplitl [HΦ]; · iexact HΦ
    isplitl [HO]; · (iexists W; iexact HO)
    isplitl [Hx]; · iexact Hx
    isplitl [Hq]; · iexact Hq
    isplitl [Ho]; · iexact Ho
    iexists _; iexact Hy
  icases H with ⟨%K, H⟩
  iapply (body_run (ins m) K c) $$ [H]
  · iexact H
  iintro H
  ihave H := (leave m c) $$ H
  icases H with ⟨HΦ, ⟨%W', HO⟩, H⟩
  isplitl [HΦ]; · iexact HΦ
  isplitl [HO]
  · iexists W'
    isplitr; · ipureintro; exact fun _ _ => Or.inl trivial
    iexact HO
  iexact H

theorem share_full (c : Dev nD) (w : Fin cfg0.W) : (dats m ρ 0 c).share w = fullShare := by unfold Pipeline.Dat.share; split <;> rfl

/-- The pipeline's waits for the staged arguments and the result sit below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The keys and values as the launch hands them over. -/
theorem kv_eq (c : Dev nD) (q : PosShare TreeShare) : (kvB m c q : sProp 𝕄)
    = iprop((((c : Thread nD τ).loc main_arg2) ↦{q} m ((c : Thread nD τ).loc main_arg2)) ∗ (((c : Thread nD τ).loc main_arg3) ↦{q} m ((c : Thread nD τ).loc main_arg3))) := by
  unfold kvB
  rw [owns_whole, owns_whole]; rfl

theorem start_intro (c : Dev nD) :
    (iprop(Pipeline.unscopedRestP Pipeline.Prefetch.none cfg0.spec c (fun b => m ((c : Thread nD τ).loc b)) ∗ levAts L lv
        ∗ Pipeline.launchCred O₀ c ∗ prngReg c (ρ c) ∗ G' (ins m) c) : sProp 𝕄)
      ⊢ |={Set.univ}=> iprop(start m c ∗ emp) := by
  rw [Pipeline.unscopedRestP_none, unscopedRest0_eq, ← kv_eq m c fullShare]
  iintro ⟨HK, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HK
  · iempintro

theorem enter (c : Dev nD) :
    (iprop(start m c ∗ Pipeline.prefHeld Pipeline.Prefetch.none c (fun _ => fullShare.right) (fun k => k.elim0) ∗ Pipeline.scopedRest cfg0.spec c) : sProp 𝕄)
      ⊢ (dats m ρ 0 c).Φ 0 := by
  rw [show (dats m ρ 0 c).Φ 0 = Φ₀ m c from rfl, scoped_eq]
  unfold Φ₀
  iintro ⟨Hs, -, Hr⟩
  isplitl [Hs]; · iexact Hs
  iexact Hr

theorem finish (c : Dev nD) :
    (dats m ρ 0 c).Φ (Fin.last cfg0.N) ⊢ (iprop(ended m c ∗ Pipeline.ownSems0 osem c ∗ Pipeline.scopedRest cfg0.spec c) : sProp 𝕄) := by
  rw [show (dats m ρ 0 c).Φ (Fin.last cfg0.N) = Φ₁ m c from rfl, scoped_eq]
  unfold Φ₁
  iintro H; iexact H

/-- The ghost state of the launch: the pipeline's and the protocol's. -/
def u₀ : UU := (initOf (Pipeline.cells cfgs cellOf_inj) (Pipeline.launchToks cfgs cellOf_inj), (initOf allCells allToks, 1))

/-- What every device's memory satisfies at the end: each window's array as the pipeline leaves it, the keys and values
    as they were. -/
def Ends (r : PUnit × MemSt nD τ sig (Elt F)) : Prop := ∀ c : Dev nD,
  (∀ w : Fin cfg0.W, r.2.mem ((cfg0.win w).arr.view.loc (c : Thread nD τ)) = (dats m ρ 0 c).arrAt w cfg0.N)
    ∧ r.2.mem ((c : Thread nD τ).loc main_arg2) = m ((c : Thread nD τ).loc main_arg2) ∧ r.2.mem ((c : Thread nD τ).loc main_arg3) = m ((c : Thread nD τ).loc main_arg3)

omit [FloatOps F] in
/-- A buffer held at some share holds, in the memory at the end, what the holding says. -/
theorem read_one (ℓ : Loc nD τ sig) (f : Buf (Elt F) ℓ) (q : PosShare TreeShare) (s' : Phys nD τ sig (Elt F)) :
    (iprop((ℓ ↦{q} f) ∗ SI s') : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s' q
  rw [bigSep_singleton] at h
  iintro H
  ihave H := h $$ H
  icases H with ⟨%e, H⟩
  isplitr; · ipureintro; exact e () (Finset.mem_singleton_self _)
  iexact H

/-- What a device's rest says of the state at the end. -/
def Rest (c : Dev nD) (s : MemSt nD τ sig (Elt F)) : Prop :=
  (∀ sm : SemLoc sig, sm.isScoped .tc = false → s.sem ((c : Thread nD τ), sm) = 0)
    ∧ s.mem ((c : Thread nD τ).loc main_arg2) = m ((c : Thread nD τ).loc main_arg2) ∧ s.mem ((c : Thread nD τ).loc main_arg3) = m ((c : Thread nD τ).loc main_arg3)

theorem read_rest (c : Dev nD) (s' : Phys nD τ sig (Elt F)) :
    (iprop(ended m c ∗ emp ∗ SI s') : sProp 𝕄) ⊢ |={Set.univ}=> iprop(⌜Rest m c s'.mem⌝ ∗ SI s') := by
  unfold ended
  simp only [kv_eq]
  iintro ⟨⟨Hu, ⟨%q, HK, HV⟩⟩, -, HSI⟩
  ihave H := (read_one _ _ _ s') $$ [HK HSI]
  · isplitl [HK]; · iexact HK
    iexact HSI
  icases H with ⟨%hk, HSI⟩
  ihave H := (read_one _ _ _ s') $$ [HV HSI]
  · isplitl [HV]; · iexact HV
    iexact HSI
  icases H with ⟨%hv, HSI⟩
  imod (Pipeline.unscopedSems0_read (X := unscopedSems0 c) (c := c) fupd_intro s') $$ [Hu HSI] with H
  · isplitl [Hu]; · iexact Hu
    iexact HSI
  icases H with ⟨%hs, HSI⟩
  imodintro
  isplitr
  · ipureintro; exact ⟨hs, hk, hv⟩
  iexact HSI

theorem fund_launch : (ownU u₀ : sProp 𝕄)
    ⊢ |={Set.univ}=> iprop(BI.own (EP (initOf (Pipeline.cells cfgs cellOf_inj) (Pipeline.launchToks cfgs cellOf_inj))) ∗ bigSep Finset.univ (G (ins m))) := by
  unfold u₀
  iintro Hu
  ihave H := (ownU_pair _ _) $$ Hu
  icases H with ⟨HP, HX⟩
  ihave HX := (own_pair_emb embR _ _) $$ HX
  icases HX with ⟨HX, -⟩
  imod (fund_all (ins m)) $$ [HX] with HG
  · iexact HX
  imodintro
  isplitl [HP]; · iexact HP
  iexact HG

/-- The whole run, for any float values: from any memory with zero counters, every weakly fair execution ends, in a
    state with each device's arrays as `Ends` says and every counter at zero. -/
theorem run_main : θ_run defs (onTc (τ := τ) (main (F := F))) ⟨m, fun _ => 0, ρ⟩ (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := fund_launch m)
    (hglob := glob (ins m))
    (hA := fun _ _ => rfl) (hpf := fun _ k => k.elim0)
    (X := start m) (Y := ended m) (Z := fun _ => iprop(emp))
    (hX := start_intro m ρ) (hin := enter m ρ) (hout := finish m ρ)
    (QY := Rest m) (hY := read_rest m)
    (hQ := fun _ h hs => ⟨fun c => ⟨(h c).1, (h c).2.2.2⟩, sem_eq_zero hs fun c => (h c).2.2.1⟩)

/-- The staged arguments are the arguments themselves. -/
theorem ins_x (c : Dev nD) : (ins m c).x = m ((c : Thread nD τ).loc main_arg0) := by
  refine funext fun j => ?_
  show m ((c : Thread nD τ).loc main_arg0) _ = _
  exact congrArg (m ((c : Thread nD τ).loc main_arg0)) (funext fun a => Fin.ext (by match a with
    | ⟨0, _⟩ => show 0 * 4 + 1 * (j 0).val = (j 0).val; omega
    | ⟨1, _⟩ => show 0 * 256 + 1 * (j 1).val = (j 1).val; omega
    | ⟨2, _⟩ => show 0 * 1024 + 1 * (j 2).val = (j 2).val; omega))
theorem ins_wq (c : Dev nD) : (ins m c).wq = m ((c : Thread nD τ).loc main_arg1) := by
  refine funext fun j => ?_
  show m ((c : Thread nD τ).loc main_arg1) _ = _
  exact congrArg (m ((c : Thread nD τ).loc main_arg1)) (funext fun a => Fin.ext (by match a with
    | ⟨0, _⟩ => show 0 * 1024 + 1 * (j 0).val = (j 0).val; omega
    | ⟨1, _⟩ => show 0 * 1024 + 1 * (j 1).val = (j 1).val; omega))
theorem ins_wo (c : Dev nD) : (ins m c).wo = m ((c : Thread nD τ).loc main_arg4) := by
  refine funext fun j => ?_
  show m ((c : Thread nD τ).loc main_arg4) _ = _
  exact congrArg (m ((c : Thread nD τ).loc main_arg4)) (funext fun a => Fin.ext (by match a with
    | ⟨0, _⟩ => show 0 * 1024 + 1 * (j 0).val = (j 0).val; omega
    | ⟨1, _⟩ => show 0 * 1024 + 1 * (j 1).val = (j 1).val; omega))

/-- The result's array at the end. -/
theorem end_out (c : Dev nD) : (dats m ρ 0 c).arrAt (3 : Fin 4) cfg0.N = OUT (ins m) c := by
  refine (dats m ρ 0 c).arrAt_eq_of_after_last (3 : Fin 4) t0_0 (by decide +kernel) _ fun j => ?_
  blk_simp
  rfl

/-- Every device's result, its arguments unchanged, every counter at zero. -/
theorem run_values : θ_run defs (onTc (τ := τ) (main (F := F))) ⟨m, fun _ => 0, ρ⟩ (fun r => (∀ c : Dev nD,
    r.2.mem ((c : Thread nD τ).loc main_v1) = OUT (ins m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0) :=
  (θ_run defs _ _).mono (fun r h => ⟨fun c => ⟨((h.1 c).1 3).trans (end_out m ρ c), ((h.1 c).1 0).trans ((dats m ρ 0 c).arrAt_in (0 : Fin 4) rfl _),
    ((h.1 c).1 1).trans ((dats m ρ 0 c).arrAt_in (1 : Fin 4) rfl _), (h.1 c).2.1, (h.1 c).2.2,
    ((h.1 c).1 2).trans ((dats m ρ 0 c).arrAt_in (2 : Fin 4) rfl _)⟩, h.2⟩) (run_main m ρ)

end Launch
end Cert.KernelIdeal.Pf
-- ==== Proof.Same.lean ====
module

public import proofs.«01_k».proof.Proof.Gen.Kernel
public import proofs.«01_k».proof.Proof.Gen.KernelIdeal

/-! # The two printed programs are one text -/

@[expose] public section
noncomputable section

namespace Cert.Proof

open Idealize.ShloMosaic

variable {F : FTy → Type} [FloatOps F]

/-- The bodies the two programs call. -/
theorem same_body : (Cert.Kernel.defs₀ (F := F)) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
/-- The two programs' tables. -/
theorem same_defs : (Cert.Kernel.defs (F := F)) = Cert.KernelIdeal.defs (F := F) :=
  congrArg (Pipeline.defs Cert.KernelIdeal.pcfgs) same_body

end Cert.Proof

end
-- ==== Proof.Average.lean ====
module

public import Idealize.ShloMosaic.PureOps.Ideal.Laws
public import Idealize.ShloMosaic.Lib.IdealHost

/-! # Averages with exponential weights over the extended reals

The kernel weighs a value by the exponential of its score; the reference first subtracts the
greatest score.  Over scores that are numbers both averages are the same, whatever the values. -/

@[expose] public section
noncomputable section

namespace Cert.Average

open Idealize.ShloMosaic
open scoped BigOperators

/-- An extended real that is a number. -/
def IsNum (x : EReal) : Prop := ∃ r : ℝ, x = (r : EReal)

/-- A number is neither infinity. -/
theorem isNum_iff {x : EReal} : IsNum x ↔ x ≠ ⊤ ∧ x ≠ ⊥ :=
  ⟨fun ⟨r, h⟩ => h ▸ ⟨EReal.coe_ne_top r, EReal.coe_ne_bot r⟩, fun h => ⟨x.toReal, (EReal.coe_toReal h.1 h.2).symm⟩⟩

/-- Products of numbers are numbers. -/
theorem IsNum.mul {x y : EReal} : IsNum x → IsNum y → IsNum (x * y) := by
  rintro ⟨a, rfl⟩ ⟨b, rfl⟩
  exact ⟨a * b, (EReal.coe_mul a b).symm⟩

/-- A finite sum of numbers is the sum in the reals. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- Sums of numbers are numbers. -/
theorem isNum_sum {ι : Type} (s : Finset ι) (f : ι → EReal) (h : ∀ i, IsNum (f i)) : IsNum (∑ i ∈ s, f i) := by
  choose g hg using h
  exact ⟨∑ i ∈ s, g i, by rw [← coe_sum]; exact Finset.sum_congr rfl fun i _ => hg i⟩

/-- The greater of two numbers is a number. -/
theorem IsNum.max {x y : EReal} (hx : IsNum x) (hy : IsNum y) : IsNum (max x y) := by
  rcases max_choice x y with h | h <;> rw [h] <;> assumption

/-- The greatest of finitely many numbers, starting from `-∞`, is a number if there is one at all. -/
theorem isNum_fold_max {n : ℕ} (f : Fin (n + 1) → EReal) (h : ∀ i, IsNum (f i)) : IsNum (Finset.univ.fold max ⊥ f) := by
  have key : ∀ s : Finset (Fin (n + 1)), s.fold max ⊥ f = ⊥ ∧ s = ∅ ∨ IsNum (s.fold max ⊥ f) := by
    intro s
    induction s using Finset.induction with
    | empty => exact .inl ⟨by simp, rfl⟩
    | insert a s ha ih =>
      right
      rw [Finset.fold_insert ha]
      rcases ih with ⟨e, _⟩ | e
      · rw [e, max_eq_left bot_le]; exact h a
      · exact (h a).max e
  rcases key Finset.univ with ⟨_, e⟩ | e
  · exact absurd e (Finset.univ_nonempty (α := Fin (n + 1))).ne_empty
  · exact e

/-- A positive number distributes over any finite sum of extended reals. -/
theorem sum_mul_pos {ι : Type} (s : Finset ι) (f : ι → EReal) (r : ℝ) (hr : 0 < r) : ∑ i ∈ s, f i * (r : EReal) = (∑ i ∈ s, f i) * (r : EReal) := by
  classical
  induction s using Finset.induction with
  | empty => simp
  | insert a s ha ih =>
    rw [Finset.sum_insert ha, Finset.sum_insert ha, ih,
      EReal.right_distrib_of_nonneg_of_ne_top (EReal.coe_nonneg.mpr hr.le) (EReal.coe_ne_top r)]

/-- Numbers distribute over finite sums of numbers. -/
theorem sum_mul_num {ι : Type} (s : Finset ι) (f g : ι → EReal) (c : EReal) (hf : ∀ i, IsNum (f i)) (hg : ∀ i, IsNum (g i)) (hc : IsNum c) :
    (∑ i ∈ s, f i * g i) * c = ∑ i ∈ s, (f i * c) * g i := by
  choose a ha using hf
  choose b hb using hg
  obtain ⟨r, rfl⟩ := hc
  simp only [ha, hb, ← EReal.coe_mul, coe_sum]
  rw [Finset.sum_mul]
  exact congrArg _ (Finset.sum_congr rfl fun i _ => by ring)

/-- The exponential of a difference of numbers. -/
theorem exp_sub (s M : ℝ) : Ideal.exp ((s : EReal) - (M : EReal)) = Ideal.exp (s : EReal) * ((Real.exp (-M) : ℝ) : EReal) := by
  rw [← EReal.coe_sub, Ideal.exp_coe, Ideal.exp_coe, ← EReal.coe_mul, sub_eq_add_neg, Real.exp_add]

/-- The average of the values `v` with weights the exponentials of the scores `s`. -/
def avg {n : ℕ} (s v : Fin n → EReal) : EReal := Ideal.div (∑ j, Ideal.exp (s j) * v j) (∑ j, Ideal.exp (s j))

/-- Subtracting one number from all scores leaves the average. -/
theorem avg_shift {n : ℕ} (s v : Fin (n + 1) → EReal) (M : EReal) (hs : ∀ j, IsNum (s j)) (hM : IsNum M) :
    Ideal.div (∑ j, v j * Ideal.exp (s j - M)) (∑ j, Ideal.exp (s j - M)) = avg s v := by
  choose a ha using hs
  obtain ⟨b, rfl⟩ := hM
  have hr : 0 < Real.exp (-b) := Real.exp_pos _
  have e1 : ∀ j, Ideal.exp (s j - (b : EReal)) = Ideal.exp (s j) * ((Real.exp (-b) : ℝ) : EReal) := fun j => by rw [ha, exp_sub]
  have e2 : ∀ j, v j * Ideal.exp (s j - (b : EReal)) = (Ideal.exp (s j) * v j) * ((Real.exp (-b) : ℝ) : EReal) := fun j => by
    rw [e1, ← mul_assoc, mul_comm (v j)]
  have hl : 0 < ∑ j, Real.exp (a j) := Finset.sum_pos (fun j _ => Real.exp_pos _) Finset.univ_nonempty
  have el : ∑ j, Ideal.exp (s j) = ((∑ j, Real.exp (a j) : ℝ) : EReal) := by
    rw [← coe_sum]; exact Finset.sum_congr rfl fun j _ => by rw [ha, Ideal.exp_coe]
  unfold avg
  rw [Finset.sum_congr rfl fun j _ => e2 j, Finset.sum_congr rfl fun j _ => e1 j]
  rw [sum_mul_pos _ _ _ hr, sum_mul_pos _ _ _ hr, el, ← EReal.coe_mul, Ideal.div_coe hl.ne', Ideal.div_coe (mul_pos hl hr).ne', mul_assoc, ← EReal.coe_mul]
  congr 2
  field_simp

end Cert.Average
-- ==== Proof.Value.lean ====
module

public import proofs.«01_k».proof.Proof.Contents
public import proofs.«01_k».proof.Proof.Average
public import Idealize.ShloMosaic.Lib.Pointwise

/-! # What the kernel computes, element by element -/

@[expose] public section
set_option maxRecDepth 16384
noncomputable section

namespace Cert.KernelIdeal.Pf

open Cert.KernelIdeal Cert.KernelIdeal.Gen Idealize.ShloMosaic
open Cert.Average
open scoped BigOperators

/-- The scale of the scores. -/
abbrev scale : EReal := Ideal.ofBits .f32 0x3DB504F3#32

/-- The rounded input, its batch blocks one above the other. -/
theorem pay3_apply (x : FVec Ideal S4x256x1024 .f32) (r e : Fin 1024) : k0_pay3 (F := Ideal) x (ix2 r e) = x (ix3 ⟨r.val / 256, by omega⟩ ⟨r.val % 256, by omega⟩ e) := by
  pointwise [k0_pay3]

/-- The query weights are kept. -/
theorem pay4_apply (w : FVec Ideal S1024x1024 .f32) (r e : Fin 1024) : k0_pay4 (F := Ideal) w (ix2 r e) = w (ix2 r e) := by
  pointwise [k0_pay4]

/-- The output weights are kept. -/
theorem pay5_apply (w : FVec Ideal S1024x1024 .f32) (r e : Fin 1024) : k0_pay5 (F := Ideal) w (ix2 r e) = w (ix2 r e) := by
  pointwise [k0_pay5]

/-- The queries of a block of rows, scaled. -/
theorem pay14_apply (q : FVec Ideal S256x1024 .bf16) (w : FVec Ideal S1024x1024 .bf16) (i : Fin 256) (k : Fin 1024) : k0_pay14 (F := Ideal) q w (ix2 i k) = (∑ e : Fin 1024, q (ix2 i e) * w (ix2 e k)) * scale := by
  pointwise [k0_pay14]

/-- The queries of half a block of rows, scaled. -/
theorem pay45_apply (q : FVec Ideal S128x1024 .bf16) (w : FVec Ideal S1024x1024 .bf16) (i : Fin 128) (k : Fin 1024) : k0_pay45 (F := Ideal) q w (ix2 i k) = (∑ e : Fin 1024, q (ix2 i e) * w (ix2 e k)) * scale := by
  pointwise [k0_pay45]

/-- The keys are kept. -/
theorem pay12_apply (q : FVec Ideal S1x1024x128 .f32) (j : Fin 1024) (d : Fin 128) : k0_pay12 (F := Ideal) q (ix3 0 j d) = q (ix3 0 j d) := by
  pointwise [k0_pay12]

/-- The values are kept. -/
theorem pay13_apply (q : FVec Ideal S1x1024x128 .f32) (j : Fin 1024) (d : Fin 128) : k0_pay13 (F := Ideal) q (ix3 0 j d) = q (ix3 0 j d) := by
  pointwise [k0_pay13]

/-- The first column beside the values holds ones. -/
theorem pay7_apply (j : Fin 1024) : k0_pay7 (F := Ideal) (k0_pay6 (F := Ideal)) (ix3 0 j 0) = 1 := by
  pointwise [k0_pay7, k0_pay6]

/-- One head group of a block of rows: the weighted sums of the values, divided by the weighted sum of column 128. -/
theorem pay17_apply (Q : FVec Ideal S256x512 .bf16) (K : FVec Ideal S1x1024x128 .bf16) (V : FVec Ideal S1x1024x256 .bf16) (i : Fin 256) (k : Fin 512) :
    k0_pay17 (F := Ideal) Q K V (ix2 i k) = Ideal.div
      (∑ j : Fin 1024, Ideal.exp (∑ d : Fin 128, Q (ix2 i ⟨k.val / 128 * 128 + d.val, by omega⟩) * K (ix3 0 j d)) * V (ix3 0 j ⟨k.val % 128, by omega⟩))
      (∑ j : Fin 1024, Ideal.exp (∑ d : Fin 128, Q (ix2 i ⟨k.val / 128 * 128 + d.val, by omega⟩) * K (ix3 0 j d)) * V (ix3 0 j 128)) := by
  have e : (i.val * 4 + k.val / 128) % 4 = k.val / 128 := by omega
  pointwise [k0_pay17]
  simp only [e]

/-- The same for half a block of rows. -/
theorem pay48_apply (Q : FVec Ideal S128x512 .bf16) (K : FVec Ideal S1x1024x128 .bf16) (V : FVec Ideal S1x1024x256 .bf16) (i : Fin 128) (k : Fin 512) :
    k0_pay48 (F := Ideal) Q K V (ix2 i k) = Ideal.div
      (∑ j : Fin 1024, Ideal.exp (∑ d : Fin 128, Q (ix2 i ⟨k.val / 128 * 128 + d.val, by omega⟩) * K (ix3 0 j d)) * V (ix3 0 j ⟨k.val % 128, by omega⟩))
      (∑ j : Fin 1024, Ideal.exp (∑ d : Fin 128, Q (ix2 i ⟨k.val / 128 * 128 + d.val, by omega⟩) * K (ix3 0 j d)) * V (ix3 0 j 128)) := by
  have e : (i.val * 4 + k.val / 128) % 4 = k.val / 128 := by omega
  pointwise [k0_pay48]
  simp only [e]

/-- The partial product of a block of rows. -/
theorem pay18_apply (a : FVec Ideal S256x1024 .bf16) (w : FVec Ideal S1024x1024 .bf16) (i : Fin 256) (n : Fin 1024) : k0_pay18 (F := Ideal) a w (ix2 i n) = ∑ k : Fin 1024, a (ix2 i k) * w (ix2 k n) := by
  pointwise [k0_pay18]

/-- The partial product of half a block of rows. -/
theorem pay49_apply (a : FVec Ideal S128x1024 .bf16) (w : FVec Ideal S1024x1024 .bf16) (i : Fin 128) (n : Fin 1024) : k0_pay49 (F := Ideal) a w (ix2 i n) = ∑ k : Fin 1024, a (ix2 i k) * w (ix2 k n) := by
  pointwise [k0_pay49]

/-- The first hop sends the partial product. -/
theorem pay19_apply (a : FVec Ideal S256x1024 .f32) (i : Fin 256) (n : Fin 1024) : k0_pay19 (F := Ideal) a (ix3 0 i n) = a (ix2 i n) := by
  pointwise [k0_pay19]

/-- A later hop sends the partial product plus what was received. -/
theorem pay29_apply (a : FVec Ideal S256x1024 .f32) (b : FVec Ideal S1x256x1024 .bf16) (i : Fin 256) (n : Fin 1024) : k0_pay29 (F := Ideal) a b (ix3 0 i n) = a (ix2 i n) + b (ix3 0 i n) := by
  pointwise [k0_pay29]

/-- The block that ends here: the partial product plus what was received. -/
theorem pay50_apply (a : FVec Ideal S128x1024 .f32) (b : FVec Ideal S1x128x1024 .bf16) (i : Fin 128) (n : Fin 1024) : k0_pay50 (F := Ideal) a b (ix2 i n) = a (ix2 i n) + b (ix3 0 i n) := by
  pointwise [k0_pay50]

/-- What of it is sent on is the same. -/
theorem pay51_apply (a : FVec Ideal S128x1024 .f32) (b : FVec Ideal S1x128x1024 .bf16) (i : Fin 128) (n : Fin 1024) : k0_pay51 (F := Ideal) a b (ix3 0 i n) = a (ix2 i n) + b (ix3 0 i n) := by
  pointwise [k0_pay51, k0_pay50]

/-- A received block is kept. -/
theorem pay60_apply (a : FVec Ideal S1x256x1024 .bf16) (i : Fin 256) (n : Fin 1024) : k0_pay60 (F := Ideal) a (ix2 i n) = a (ix3 0 i n) := by
  pointwise [k0_pay60]

/-! ## One device -/

section One
variable (A : Ins Ideal) (c : Dev nD) (b : Fin 4)

/-- One query of one device. -/
def quer (i : Fin 256) (k : Fin 1024) : EReal := ∑ e : Fin 1024, A.x (ix3 b i e) * A.wq (ix2 e k)

/-- The attention of one device: column `k` is component `k % 128` of the device's head `k / 128`. -/
def att (i : Fin 256) (k : Fin 1024) : EReal :=
  avg (fun j : Fin 1024 => ∑ d : Fin 128, (quer A b i ⟨k.val / 128 * 128 + d.val, by omega⟩ * scale) * A.kk (ix4 b j (hd c ⟨k.val / 512, by omega⟩) d))
    (fun j : Fin 1024 => A.vv (ix4 b j (hd c ⟨k.val / 512, by omega⟩) ⟨k.val % 128, by omega⟩))

/-- One element of the partial product of one device. -/
def term (i : Fin 256) (n : Fin 1024) : EReal := ∑ k : Fin 1024, att A c b i k * A.wo (ix2 k n)

/-- The keys of one of the device's heads. -/
theorem kb_apply (r : Fin 2) (j : Fin 1024) (d : Fin 128) : kb A c b r (ix3 0 j d) = A.kk (ix4 b j (hd c r) d) :=
  pay12_apply _ j d

/-- The values of one of the device's heads, in the left half of their slot. -/
theorem vb_apply (r : Fin 2) (j : Fin 1024) (d : ℕ) (h : d < 128) : vb A c b r (ix3 0 j ⟨d, by omega⟩) = A.vv (ix4 b j (hd c r) ⟨d, h⟩) := by
  refine (dif_pos h).trans ?_
  exact pay13_apply _ j ⟨d, h⟩

/-- The right half of that slot. -/
theorem vb_right (r : Fin 2) (j : Fin 1024) (d : ℕ) (h : ¬ d < 128) (h' : d < 256) :
    vb A c b r (ix3 0 j ⟨d, h'⟩) = k0_pay7 (F := Ideal) (k0_pay6 (F := Ideal)) (ix3 0 j ⟨d - 128, by omega⟩) := dif_neg h

/-- Its first column holds ones. -/
theorem vb_one (r : Fin 2) (j : Fin 1024) : vb A c b r (ix3 0 j 128) = 1 :=
  (vb_right A c b r j 128 (by decide) (by decide)).trans (pay7_apply j)

/-- One head group of a block of rows is an average of the values. -/
theorem group17 (r : Fin 2) (Q : FVec Ideal S256x512 .bf16) (i : Fin 256) (k : Fin 512) : k0_pay17 (F := Ideal) Q (kb A c b r) (vb A c b r) (ix2 i k)
    = avg (fun j : Fin 1024 => ∑ d : Fin 128, Q (ix2 i ⟨k.val / 128 * 128 + d.val, by omega⟩) * A.kk (ix4 b j (hd c r) d))
        (fun j : Fin 1024 => A.vv (ix4 b j (hd c r) ⟨k.val % 128, by omega⟩)) := by
  rw [pay17_apply]
  simp only [kb_apply, vb_one, mul_one, vb_apply A c b r _ (k.val % 128) (by omega)]
  rfl

/-- One head group of half a block of rows is an average of the values. -/
theorem group48 (r : Fin 2) (Q : FVec Ideal S128x512 .bf16) (i : Fin 128) (k : Fin 512) : k0_pay48 (F := Ideal) Q (kb A c b r) (vb A c b r) (ix2 i k)
    = avg (fun j : Fin 1024 => ∑ d : Fin 128, Q (ix2 i ⟨k.val / 128 * 128 + d.val, by omega⟩) * A.kk (ix4 b j (hd c r) d))
        (fun j : Fin 1024 => A.vv (ix4 b j (hd c r) ⟨k.val % 128, by omega⟩)) := by
  rw [pay48_apply]
  simp only [kb_apply, vb_one, mul_one, vb_apply A c b r _ (k.val % 128) (by omega)]
  rfl

/-- The rows of batch block `b` of the input. -/
theorem rows_apply (i : Fin 256) (e : Fin 1024) : rows (k0_pay3 A.x) b (ix2 i e) = A.x (ix3 b i e) := by
  refine (pay3_apply A.x ⟨256 * b.val + i.val, by omega⟩ e).trans ?_
  congr 2 <;> exact Fin.ext (by simp only; omega)

/-- The rows of half `h` of batch block `b` of the input. -/
theorem rowsH_apply (h : Fin 2) (i : Fin 128) (e : Fin 1024) : rowsH (k0_pay3 A.x) b h (ix2 i e) = A.x (ix3 b ⟨128 * h.val + i.val, by omega⟩ e) := by
  refine (pay3_apply A.x ⟨256 * b.val + 128 * h.val + i.val, by omega⟩ e).trans ?_
  congr 2 <;> exact Fin.ext (by simp only; omega)

/-- The scaled queries of a block of rows. -/
theorem quer14 (i : Fin 256) (k : Fin 1024) : k0_pay14 (F := Ideal) (rows (k0_pay3 A.x) b) (k0_pay4 A.wq) (ix2 i k) = quer A b i k * scale := by
  rw [pay14_apply]
  simp only [rows_apply, pay4_apply]
  rfl

/-- The scaled queries of half a block of rows. -/
theorem quer45 (h : Fin 2) (i : Fin 128) (k : Fin 1024) : k0_pay45 (F := Ideal) (rowsH (k0_pay3 A.x) b h) (k0_pay4 A.wq) (ix2 i k)
    = quer A b ⟨128 * h.val + i.val, by omega⟩ k * scale := by
  rw [pay45_apply]
  simp only [rowsH_apply, pay4_apply]
  rfl

/-- Both head groups of one row, given what each group computes. -/
theorem cat_att {n : ℕ} (Q : Vec Ideal ⟨2, ![n, 1024]⟩ .bf16) (L R : Vec Ideal ⟨2, ![n, 512]⟩ .bf16) (i : Fin n) (i' : Fin 256)
    (hQ : ∀ k : Fin 1024, Q (ix2 i k) = quer A b i' k * scale)
    (hL : ∀ k : Fin 512, L (ix2 i k) = avg (fun j : Fin 1024 => ∑ d : Fin 128, colsL Q (ix2 i ⟨k.val / 128 * 128 + d.val, by omega⟩) * A.kk (ix4 b j (hd c 0) d))
        (fun j : Fin 1024 => A.vv (ix4 b j (hd c 0) ⟨k.val % 128, by omega⟩)))
    (hR : ∀ k : Fin 512, R (ix2 i k) = avg (fun j : Fin 1024 => ∑ d : Fin 128, colsR Q (ix2 i ⟨k.val / 128 * 128 + d.val, by omega⟩) * A.kk (ix4 b j (hd c 1) d))
        (fun j : Fin 1024 => A.vv (ix4 b j (hd c 1) ⟨k.val % 128, by omega⟩)))
    (k : Fin 1024) : cat L R (ix2 i k) = att A c b i' k := by
  have eL : ∀ k : Fin 512, colsL Q (ix2 i k) = quer A b i' ⟨k.val, by omega⟩ * scale := fun k => hQ _
  have eR : ∀ k : Fin 512, colsR Q (ix2 i k) = quer A b i' ⟨512 + k.val, by omega⟩ * scale := fun k => hQ _
  simp only [eL] at hL
  simp only [eR] at hR
  by_cases h : k.val < 512
  · refine ((dif_pos h).trans (hL ⟨k.val, h⟩)).trans ?_
    have e : (⟨k.val / 512, by omega⟩ : Fin 2) = 0 := Fin.ext (by simp only [Fin.val_zero]; omega)
    unfold att
    rw [e]
  · refine ((dif_neg h).trans (hR ⟨k.val - 512, by omega⟩)).trans ?_
    have e : (⟨k.val / 512, by omega⟩ : Fin 2) = 1 := Fin.ext (by simp only [Fin.val_one]; omega)
    have e1 : ∀ d : Fin 128, (⟨512 + ((k.val - 512) / 128 * 128 + d.val), by omega⟩ : Fin 1024) = ⟨k.val / 128 * 128 + d.val, by omega⟩ := fun d => Fin.ext (by simp only; omega)
    have e2 : (⟨(k.val - 512) % 128, by omega⟩ : Fin 128) = ⟨k.val % 128, by omega⟩ := Fin.ext (by simp only; omega)
    unfold att
    simp only [e, e1, e2]

/-- The attention of a block of rows. -/
theorem attnB_apply (i : Fin 256) (k : Fin 1024) : attnB A c b (ix2 i k) = att A c b i k :=
  cat_att A c b _ _ _ i i (quer14 A b i) (group17 A c b 0 _ i) (group17 A c b 1 _ i) k

/-- The attention of half a block of rows. -/
theorem attnH_apply (h : Fin 2) (i : Fin 128) (k : Fin 1024) : attnH A c b h (ix2 i k) = att A c b ⟨128 * h.val + i.val, by omega⟩ k :=
  cat_att A c b _ _ _ i _ (quer45 A b h i) (group48 A c b 0 _ i) (group48 A c b 1 _ i) k

/-- The partial product of a block of rows. -/
theorem part_apply (i : Fin 256) (n : Fin 1024) : part A c b (ix2 i n) = term A c b i n := by
  refine (pay18_apply _ _ i n).trans ?_
  simp only [attnB_apply, pay5_apply]
  rfl

/-- The partial product of half a block of rows. -/
theorem partH_apply (h : Fin 2) (i : Fin 128) (n : Fin 1024) : partH A c b h (ix2 i n) = term A c b ⟨128 * h.val + i.val, by omega⟩ n := by
  refine (pay49_apply _ _ i n).trans ?_
  simp only [attnH_apply, pay5_apply]
  rfl

end One

/-! ## Around the ring -/

section Ring
variable (I : Dev nD → Ins Ideal)

/-- The four devices' partial products, summed. -/
def total (b : Fin 4) (i : Fin 256) (n : Fin 1024) : EReal := ∑ d : Fin 4, term (I d) d b i n

/-- The four devices, seen from `c`. -/
theorem sum_from (f : Dev nD → EReal) (c : Dev nD) : f c + (f (sh 3 c) + (f (sh 2 c) + f (sh 1 c))) = ∑ d : Fin 4, f d := by
  rw [Fin.sum_univ_four]
  have key : ∀ c : Fin 4, c = 0 ∧ sh 3 c = 3 ∧ sh 2 c = 2 ∧ sh 1 c = 1 ∨ c = 1 ∧ sh 3 c = 0 ∧ sh 2 c = 3 ∧ sh 1 c = 2
      ∨ c = 2 ∧ sh 3 c = 1 ∧ sh 2 c = 0 ∧ sh 1 c = 3 ∨ c = 3 ∧ sh 3 c = 2 ∧ sh 2 c = 1 ∧ sh 1 c = 0 := by decide
  rcases key c with ⟨h, e3, e2, e1⟩ | ⟨h, e3, e2, e1⟩ | ⟨h, e3, e2, e1⟩ | ⟨h, e3, e2, e1⟩ <;> rw [e3, e2, e1, h] <;> abel

/-- Going around: `n` and then `m` places are `n + m` places, up to four. -/
theorem sh_around (n m : ℕ) (c : Dev nD) : sh n (sh m c) = sh ((n + m) % 4) c :=
  Fin.ext (by simp only [sh]; omega)

/-- The last hop carries the sum of three partial products. -/
theorem RS2_apply (c : Dev nD) (i : Fin 256) (n : Fin 1024) : RS2 I c (ix3 0 i n)
    = term (I c) c (sh 2 c) i n + (term (I (sh 3 c)) (sh 3 c) (sh 2 c) i n + term (I (sh 2 c)) (sh 2 c) (sh 2 c) i n) := by
  refine (pay29_apply _ _ i n).trans ?_
  rw [part_apply]
  congr 1
  refine (pay29_apply _ _ i n).trans ?_
  rw [part_apply, sh_around]
  congr 1
  exact (pay19_apply _ i n).trans (part_apply _ _ _ i n)

/-- What travels on the last hop, added to the part of the device where it ends, is the total. -/
theorem last (c : Dev nD) (h : Fin 2) (i : Fin 128) (n : Fin 1024) : partH (I c) c (sh 1 c) h (ix2 i n) + slotH (RS2 I (sh 3 c)) h (ix3 0 i n)
    = total I (sh 1 c) ⟨128 * h.val + i.val, by omega⟩ n := by
  have e : slotH (RS2 I (sh 3 c)) h (ix3 0 i n) = RS2 I (sh 3 c) (ix3 0 ⟨128 * h.val + i.val, by omega⟩ n) := rfl
  rw [e, partH_apply, RS2_apply, sh_around 2 3, sh_around 3 3]
  exact sum_from (fun d => term (I d) d (sh 1 c) ⟨128 * h.val + i.val, by omega⟩ n) c

/-- The block that ends on `c` is the total. -/
theorem fin_apply (c : Dev nD) (h : Fin 2) (i : Fin 128) (n : Fin 1024) : fin I c h (ix2 i n) = total I (sh 1 c) ⟨128 * h.val + i.val, by omega⟩ n :=
  (pay50_apply _ _ i n).trans (last I c h i n)

/-- What `c` sends to the others is the total. -/
theorem AG_apply (c : Dev nD) (h : Fin 2) (i : Fin 128) (n : Fin 1024) : AG I c h (ix3 0 i n) = total I (sh 1 c) ⟨128 * h.val + i.val, by omega⟩ n :=
  (pay51_apply _ _ i n).trans (last I c h i n)

/-- Every block of rows of the result is the total, whether computed on the device or received. -/
theorem outRows_apply (c : Dev nD) (b : Fin 4) (i : Fin 256) (n : Fin 1024) : outRows I c b (ix2 i n) = total I b i n := by
  have e : (⟨128 * (i.val / 128) + i.val % 128, by omega⟩ : Fin 256) = i := Fin.ext (by simp only; omega)
  by_cases h : b = sh 1 c
  · subst h
    refine (congrFun (if_pos rfl) (ix2 i n)).trans ?_
    refine (fin_apply I c ⟨i.val / 128, by omega⟩ ⟨i.val % 128, by omega⟩ n).trans ?_
    simp only [e]
  · have e1 : sh 1 (sh 3 b) = b := by
      rw [sh_around]
      exact Fin.ext (Nat.mod_eq_of_lt b.isLt)
    refine (congrFun (if_neg h) (ix2 i n)).trans ?_
    refine (pay60_apply _ i n).trans ?_
    refine (AG_apply I (sh 3 b) ⟨i.val / 128, by omega⟩ ⟨i.val % 128, by omega⟩ n).trans ?_
    simp only [e, e1]

/-- Every device ends with the total. -/
theorem OUT_apply (c : Dev nD) (r n : Fin 1024) : OUT I c (ix2 r n) = total I ⟨r.val / 256, by omega⟩ ⟨r.val % 256, by omega⟩ n :=
  outRows_apply I c _ _ n

end Ring

end Cert.KernelIdeal.Pf
-- ==== Proof.Reference.lean ====
module

public import proofs.«01_k».proof.Proof.Gen.ReferenceIdeal.Run
public import proofs.«01_k».proof.Proof.Average
public import Idealize.ShloMosaic.Lib.Pointwise

/-! # What the reference computes, element by element -/

@[expose] public section
set_option maxRecDepth 16384
noncomputable section

namespace Cert.ReferenceIdeal.Pf

open Cert.ReferenceIdeal Cert.ReferenceIdeal.Gen Idealize.ShloMosaic Idealize.ShloMosaic.TcCoe
open Cert.Average
open scoped BigOperators

variable (x : FVec Ideal S4x256x1024 .f32) (wq : FVec Ideal S1024x4096 .f32) (kk vv : FVec Ideal S4x1024x8x128 .f32) (wo : FVec Ideal S4096x1024 .f32)

/-- The queries. -/
def quer : FVec Ideal S4x256x32x128 .f32 :=
  shapeCast _ (Host.dotGeneral dot_S4x256x1024_S1024x4096_S4x256x4096_2_0_01_1_n_n none x wq) shapeCasts_S4x256x4096_S4x256x32x128

/-- Keys or values, every head four times over. -/
def rep : FVec Ideal S4x1024x32x128 .f32 :=
  shapeCast _ (broadcastInDim S4x1024x8x4x128 ![0, 1, 2, 4] bcast_S4x1024x8x128_S4x1024x8x4x128_0_1_2_4 kk) shapeCasts_S4x1024x8x4x128_S4x1024x32x128

/-- The scores. -/
def scor : FVec Ideal S4x32x256x1024 .f32 :=
  mulf (Host.dotGeneral dot_S4x256x32x128_S4x1024x32x128_S4x32x256x1024_3_3_1_1_02_02 none (quer x wq) (rep kk))
    (broadcastInDim S4x32x256x1024 ![] bcast_S_S4x32x256x1024 (constant S_ .f32 0x3DB504F3#32))

/-- The greatest score of a query. -/
def best (s : FVec Ideal S4x32x256x1024 .f32) : FVec Ideal S4x32x256x1 .f32 :=
  maximumf (broadcastInDim S4x32x256x1 ![] bcast_S_S4x32x256x1 (constant S_ .f32 0xFF800000#32))
    (broadcastInDim S4x32x256x1 ![0, 1, 2] bcast_S4x32x256_S4x32x256x1_0_1_2
      (Host.reduce FloatOps.maximumf s (constant S_ .f32 0xFF800000#32) reducesTo_S4x32x256x1024_S4x32x256_d3 h_S_))

/-- The weights. -/
def wgt (s : FVec Ideal S4x32x256x1024 .f32) : FVec Ideal S4x32x256x1024 .f32 :=
  Host.exp (subf s (broadcastInDim S4x32x256x1024 ![0, 1, 2, 3] bcast_S4x32x256x1_S4x32x256x1024_0_1_2_3 (best s)))

/-- What the first, and only, block of keys multiplies earlier sums by. -/
def fade (s : FVec Ideal S4x32x256x1024 .f32) : FVec Ideal S4x32x256x1 .f32 :=
  Host.exp (subf (broadcastInDim S4x32x256x1 ![] bcast_S_S4x32x256x1 (constant S_ .f32 0xFF800000#32)) (best s))

/-- The weighted sums of the values. -/
def numer (s : FVec Ideal S4x32x256x1024 .f32) : FVec Ideal S4x256x32x128 .f32 :=
  addf (mulf (broadcastInDim S4x256x32x128 ![] bcast_S_S4x256x32x128 (constant S_ .f32 0x00000000#32))
      (broadcastInDim S4x256x32x128 ![0, 1, 2, 3] bcast_S4x256x32x1_S4x256x32x128_0_1_2_3 (transpose S4x256x32x1 [0, 2, 1, 3] (fade s) transposes_S4x32x256x1_S4x256x32x1_0_2_1_3)))
    (transpose S4x256x32x128 [0, 3, 1, 2] (Host.dotGeneral dot_S4x1024x32x128_S4x32x256x1024_S4x32x128x256_1_3_3_2_02_01 none (rep vv) (wgt s)) transposes_S4x32x128x256_S4x256x32x128_0_3_1_2)

/-- The sums of the weights. -/
def denom (s : FVec Ideal S4x32x256x1024 .f32) : FVec Ideal S4x32x256x1 .f32 :=
  addf (mulf (broadcastInDim S4x32x256x1 ![] bcast_S_S4x32x256x1 (constant S_ .f32 0x00000000#32)) (fade s))
    (broadcastInDim S4x32x256x1 ![0, 1, 2] bcast_S4x32x256_S4x32x256x1_0_1_2
      (Host.reduceAdd (wgt s) (constant S_ .f32 0x00000000#32) reducesTo_S4x32x256x1024_S4x32x256_d3 h_S_))

/-- The attention. -/
def attn : FVec Ideal S4x256x32x128 .f32 :=
  Host.divf (numer vv (scor x wq kk)) (broadcastInDim S4x256x32x128 ![0, 1, 2, 3] bcast_S4x256x32x1_S4x256x32x128_0_1_2_3
    (transpose S4x256x32x1 [0, 2, 1, 3] (denom (scor x wq kk)) transposes_S4x32x256x1_S4x256x32x1_0_2_1_3))

/-- The whole reference. -/
def whole : FVec Ideal S1024x1024 .f32 :=
  shapeCast _ (Host.dotGeneral dot_S4x256x4096_S4096x1024_S4x256x1024_2_0_01_1_n_n none (shapeCast _ (attn x wq kk vv) shapeCasts_S4x256x32x128_S4x256x4096) wo) shapeCasts_S4x256x1024_S1024x1024

/-- The reference's run ends with `whole` of its arguments. -/
theorem res_eq (m : (ℓ : Loc nD τ sig) → Buf (Elt Ideal) ℓ) (c : Dev nD) : Value.res_main_v35 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A query: a row of `x` times a column of the query weights. -/
theorem quer_apply (b : Fin 4) (i : Fin 256) (h : Fin 32) (d : Fin 128) : quer x wq (ix4 b i h d)
    = ∑ e : Fin 1024, x (ix3 b i e) * wq (ix2 e ⟨h.val * 128 + d.val, by omega⟩) := by
  pointwise [quer]

/-- Head `h` of the repeated keys or values is head `h / 4` of the given ones. -/
theorem rep_apply (b : Fin 4) (j : Fin 1024) (h : Fin 32) (d : Fin 128) : rep kk (ix4 b j h d) = kk (ix4 b j ⟨h.val / 4, by omega⟩ d) := by
  pointwise [rep]

/-- A score: a query times a key, scaled. -/
theorem scor_apply (b : Fin 4) (h : Fin 32) (i : Fin 256) (j : Fin 1024) : scor x wq kk (ix4 b h i j)
    = (∑ d : Fin 128, quer x wq (ix4 b i h d) * rep kk (ix4 b j h d)) * Ideal.ofBits .f32 0x3DB504F3#32 := by
  pointwise [scor]

/-- The greatest of the scores of a query. -/
theorem best_apply (s : FVec Ideal S4x32x256x1024 .f32) (b : Fin 4) (h : Fin 32) (i : Fin 256) : best s (ix4 b h i 0)
    = max ⊥ (Finset.univ.fold max ⊥ fun j : Fin 1024 => s (ix4 b h i j)) := by
  have e : Ideal.ofBits .f32 0xFF800000#32 = ⊥ := by simp [Ideal.ofBits, Ideal.ieee]
  unfold best
  rw [maximumf_apply]
  pointwise []
  rw [e]

/-- A weight: the exponential of a score less the greatest. -/
theorem wgt_apply (s : FVec Ideal S4x32x256x1024 .f32) (b : Fin 4) (h : Fin 32) (i : Fin 256) (j : Fin 1024) : wgt s (ix4 b h i j)
    = Ideal.exp (s (ix4 b h i j) - best s (ix4 b h i 0)) := by
  pointwise [wgt]

/-- The weighted sum of the values; the faded earlier sum is zero. -/
theorem numer_apply (s : FVec Ideal S4x32x256x1024 .f32) (b : Fin 4) (i : Fin 256) (h : Fin 32) (d : Fin 128) : numer vv s (ix4 b i h d)
    = ∑ j : Fin 1024, rep vv (ix4 b j h d) * wgt s (ix4 b h i j) := by
  pointwise [numer]
  rw [zero_mul, zero_add]

/-- The sum of the weights; the faded earlier sum is zero. -/
theorem denom_apply (s : FVec Ideal S4x32x256x1024 .f32) (b : Fin 4) (i : Fin 256) (h : Fin 32) : denom s (ix4 b h i 0)
    = ∑ j : Fin 1024, wgt s (ix4 b h i j) := by
  pointwise [denom]
  rw [zero_mul, zero_add]

/-- The attention is the quotient of the two sums. -/
theorem attn_apply (b : Fin 4) (i : Fin 256) (h : Fin 32) (d : Fin 128) : attn x wq kk vv (ix4 b i h d)
    = Ideal.div (numer vv (scor x wq kk) (ix4 b i h d)) (denom (scor x wq kk) (ix4 b h i 0)) := by
  pointwise [attn]

/-- The result: a row of the attention, all heads side by side, times a column of the output weights. -/
theorem whole_apply (r : Fin 1024) (n : Fin 1024) : whole x wq kk vv wo (ix2 r n)
    = ∑ k : Fin 4096, attn x wq kk vv (ix4 ⟨r.val / 256, by omega⟩ ⟨r.val % 256, by omega⟩ ⟨k.val / 128, by omega⟩ ⟨k.val % 128, by omega⟩) * wo (ix2 k n) := by
  pointwise [whole]

/-- The scale of the scores is a number. -/
theorem isNum_scale : IsNum (Ideal.ofBits .f32 0x3DB504F3#32) := by
  refine isNum_iff.mpr ?_
  constructor <;> simp [Ideal.ofBits, Ideal.ieee, -EReal.coe_mul]

section numbers

variable (hx : ∀ j, IsNum (x j)) (hq : ∀ j, IsNum (wq j)) (hk : ∀ j, IsNum (kk j))
include hx hq

/-- The queries are numbers. -/
theorem isNum_quer (b : Fin 4) (i : Fin 256) (h : Fin 32) (d : Fin 128) : IsNum (quer x wq (ix4 b i h d)) := by
  rw [quer_apply]
  exact isNum_sum _ _ fun _ => (hx _).mul (hq _)

include hk

/-- The scores are numbers. -/
theorem isNum_scor (b : Fin 4) (h : Fin 32) (i : Fin 256) (j : Fin 1024) : IsNum (scor x wq kk (ix4 b h i j)) := by
  rw [scor_apply]
  exact (isNum_sum _ _ fun _ => (isNum_quer x wq hx hq _ _ _ _).mul (by rw [rep_apply]; exact hk _)).mul isNum_scale

/-- The attention is the average of the values with weights the exponentials of the scores. -/
theorem attn_eq (b : Fin 4) (i : Fin 256) (h : Fin 32) (d : Fin 128) : attn x wq kk vv (ix4 b i h d)
    = avg (fun j : Fin 1024 => ∑ e : Fin 128, (quer x wq (ix4 b i h e) * Ideal.ofBits .f32 0x3DB504F3#32) * kk (ix4 b j ⟨h.val / 4, by omega⟩ e))
        (fun j : Fin 1024 => vv (ix4 b j ⟨h.val / 4, by omega⟩ d)) := by
  have hM : IsNum (best (scor x wq kk) (ix4 b h i 0)) := by
    rw [best_apply, max_eq_right bot_le]
    exact isNum_fold_max (n := 1023) _ fun j => isNum_scor x wq kk hx hq hk b h i j
  have hs : ∀ j : Fin 1024, ∑ e : Fin 128, (quer x wq (ix4 b i h e) * Ideal.ofBits .f32 0x3DB504F3#32) * kk (ix4 b j ⟨h.val / 4, by omega⟩ e)
      = scor x wq kk (ix4 b h i j) := fun j => by
    rw [scor_apply, sum_mul_num _ _ _ _ (fun e => isNum_quer x wq hx hq b i h e) (fun e => by rw [rep_apply]; exact hk _) isNum_scale]
    exact Finset.sum_congr rfl fun e _ => by rw [rep_apply]
  rw [attn_apply, numer_apply, denom_apply, ← avg_shift (n := 1023) _ _ _ (fun j => by rw [hs]; exact isNum_scor x wq kk hx hq hk b h i j) hM]
  simp only [hs, wgt_apply, rep_apply]

end numbers

end Cert.ReferenceIdeal.Pf
-- ==== Proof.Equal.lean ====
module

public import proofs.«01_k».proof.Proof.Value
public import proofs.«01_k».proof.Proof.Reference
public import Idealize.ShloMosaic.Lib.Layout

/-! # Kernel and reference compute the same

Device `d` holds columns `1024 d` and on of the query weights and the same rows of the output
weights, hence the heads `8 d` and on: its partial product is the part of the reference's last
sum over these rows. -/

@[expose] public section
set_option maxRecDepth 16384
noncomputable section

namespace Cert.Equal

open Idealize.ShloMosaic Cert.Average
open Cert.KernelIdeal (nD)
open Cert.KernelIdeal.Pf (Ins OUT OUT_apply total term att hd)
open Cert.ReferenceIdeal.Pf (whole whole_apply attn attn_eq quer_apply)
open scoped BigOperators

/-- A block of columns, element by element. -/
theorem block_cols (w : (⟨2, ![1024, 4096]⟩ : Shape).Idx → EReal) (c : Fin 4) (e k : Fin 1024) :
    (Layout.block ⟨2, ![1024, 1024]⟩ ⟨2, ![1024, 4096]⟩ 1 4 c w) (ix2 e k) = w (ix2 e ⟨c.val * 1024 + k.val, by omega⟩) := by
  rw [Layout.block_apply]
  exact congrArg w (funext fun a => Fin.ext (by match a with | ⟨0, _⟩ => rfl | ⟨1, _⟩ => rfl))

/-- A block of rows, element by element. -/
theorem block_rows (w : (⟨2, ![4096, 1024]⟩ : Shape).Idx → EReal) (c : Fin 4) (k n : Fin 1024) :
    (Layout.block ⟨2, ![1024, 1024]⟩ ⟨2, ![4096, 1024]⟩ 0 4 c w) (ix2 k n) = w (ix2 ⟨c.val * 1024 + k.val, by omega⟩ n) := by
  rw [Layout.block_apply]
  exact congrArg w (funext fun a => Fin.ext (by match a with | ⟨0, _⟩ => rfl | ⟨1, _⟩ => rfl))

/-- If every block of columns holds numbers only, so does the whole. -/
theorem isNum_cols (w : (⟨2, ![1024, 4096]⟩ : Shape).Idx → EReal) (h : ∀ (c : Fin 4) (j : (⟨2, ![1024, 1024]⟩ : Shape).Idx), IsNum ((Layout.block ⟨2, ![1024, 1024]⟩ ⟨2, ![1024, 4096]⟩ 1 4 c w) j))
    (j : (⟨2, ![1024, 4096]⟩ : Shape).Idx) : IsNum (w j) := by
  have hl : (j 1).val < 4096 := (j 1).isLt
  have h0 := h ⟨(j 1).val / 1024, by omega⟩ (ix2 (j 0) ⟨(j 1).val % 1024, by omega⟩)
  have hb := (block_cols w ⟨(j 1).val / 1024, by omega⟩ (j 0) ⟨(j 1).val % 1024, by omega⟩) ▸ h0
  have e : (ix2 (j 0) ⟨(j 1).val / 1024 * 1024 + (j 1).val % 1024, by omega⟩ : (⟨2, ![1024, 4096]⟩ : Shape).Idx) = j :=
    funext fun a => Fin.ext (by
      match a with
      | ⟨0, _⟩ => rfl
      | ⟨1, _⟩ => show (j 1).val / 1024 * 1024 + (j 1).val % 1024 = (j 1).val; omega)
  exact e ▸ hb

/-- An array whose absolute values the precondition finds below `+∞` holds numbers only. -/
theorem isNum_of_pre {s : Shape} (h : (⟨0, ![]⟩ : Shape).BroadcastsInDim s (![] : Fin 0 → Fin s.rank)) (a : FVec Ideal s .f32)
    (e : cmpf .olt (Host.absf a) (broadcastInDim s ![] h (constant (F := Ideal) ⟨0, ![]⟩ .f32 0x7F800000#32)) = fun _ => 1#1) (j : s.Idx) : IsNum (a j) := by
  have t : Ideal.ofBits .f32 0x7F800000#32 = ⊤ := by simp [Ideal.ofBits, Ideal.ieee]
  have h1 : BitVec.ofBool (decide (max (a j) (-(a j)) < Ideal.ofBits .f32 0x7F800000#32)) = 1#1 := congrFun e j
  rw [t] at h1
  have h2 : max (a j) (-(a j)) < ⊤ := by
    by_contra hn
    rw [decide_eq_false hn] at h1
    exact absurd h1 (by decide)
  refine isNum_iff.mpr ⟨fun h3 => ?_, fun h3 => ?_⟩ <;> rw [h3] at h2 <;> simp at h2

section
variable (I : Dev nD → Ins Ideal)
variable (x : FVec Ideal Cert.ReferenceIdeal.S4x256x1024 .f32) (wq : FVec Ideal Cert.ReferenceIdeal.S1024x4096 .f32)
variable (kk vv : FVec Ideal Cert.ReferenceIdeal.S4x1024x8x128 .f32) (wo : FVec Ideal Cert.ReferenceIdeal.S4096x1024 .f32)
variable (ex : ∀ d, (I d).x = x) (eq : ∀ d, (I d).wq = Layout.block ⟨2, ![1024, 1024]⟩ ⟨2, ![1024, 4096]⟩ 1 4 d wq)
variable (ek : ∀ d, (I d).kk = kk) (ev : ∀ d, (I d).vv = vv) (eo : ∀ d, (I d).wo = Layout.block ⟨2, ![1024, 1024]⟩ ⟨2, ![4096, 1024]⟩ 0 4 d wo)
variable (hx : ∀ j, IsNum (x j)) (hq : ∀ j, IsNum (wq j)) (hk : ∀ j, IsNum (kk j))
include ex eq ek ev hx hq hk

/-- The attention of device `d` is that of the reference, in the columns `1024 d` and on. -/
theorem att_eq (d : Fin 4) (b : Fin 4) (i : Fin 256) (k : Fin 1024) : att (I d) d b i k
    = attn x wq kk vv (ix4 b i ⟨(d.val * 1024 + k.val) / 128, by omega⟩ ⟨(d.val * 1024 + k.val) % 128, by omega⟩) := by
  rw [attn_eq x wq kk vv hx hq hk]
  have e1 : (⟨(d.val * 1024 + k.val) / 128 / 4, by omega⟩ : Fin 8) = hd d ⟨k.val / 512, by omega⟩ := Fin.ext (by simp only [hd]; omega)
  have e2 : (⟨(d.val * 1024 + k.val) % 128, by omega⟩ : Fin 128) = ⟨k.val % 128, by omega⟩ := Fin.ext (by simp only; omega)
  have e3 : ∀ e : Fin 128, Cert.KernelIdeal.Pf.quer (I d) b i ⟨k.val / 128 * 128 + e.val, by omega⟩
      = Cert.ReferenceIdeal.Pf.quer x wq (ix4 b i ⟨(d.val * 1024 + k.val) / 128, by omega⟩ e) := fun e => by
    rw [quer_apply]
    refine Finset.sum_congr rfl fun f _ => ?_
    rw [ex, eq]
    refine congrArg _ ((block_cols wq d f _).trans (congrArg (fun n => wq (ix2 f n)) (Fin.ext ?_)))
    simp only
    omega
  unfold att
  simp only [e1, e2, e3, ek, ev]

include eo

/-- Every device ends with the reference's result. -/
theorem out_eq (c : Dev nD) : OUT I c = whole x wq kk vv wo := by
  refine funext fun j => ?_
  obtain ⟨r, n, rfl⟩ : ∃ (r n : Fin 1024), j = ix2 r n := ⟨j 0, j 1, funext fun a => by match a with | ⟨0, _⟩ => rfl | ⟨1, _⟩ => rfl⟩
  rw [OUT_apply, whole_apply, Fin.sum_univ_tiles 4 1024 rfl]
  refine Finset.sum_congr rfl fun d _ => Finset.sum_congr rfl fun k _ => ?_
  rw [att_eq I x wq kk vv ex eq ek ev hx hq hk, eo]
  exact congrArg _ (block_rows wo d k n)

end

end Cert.Equal
-- ==== Proof.lean ====
/- The proof of the claims about the cross attention kernel: the frames, that the idealization keeps the program, and that over the reals it computes what the reference does. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launched
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem

/-- The kernel at any floats: it ends, its arguments unchanged, its counters at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Pf.run_values m ρ)

/-- The kernel over the reals. -/
theorem frame_ideal : Cert.quiescent_KernelIdeal := fun m ρ _ => frame_any (F := Ideal) m ρ

/-- The kernel as printed. -/
theorem frame_kernel : Cert.quiescent_Kernel := fun m ρ _ => by
  show θ_run (Cert.Kernel.defs (F := Bits)) (onTc (τ := Cert.KernelIdeal.τ) (Cert.KernelIdeal.main (F := Bits))) ⟨m, fun _ => 0, ρ⟩ _
  rw [same_defs]
  exact frame_any (F := Bits) m ρ

/-- The reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- The precondition's side conditions, at one device's shapes. -/
theorem facts_pre : Cert.Pre_scores_finite_KernelIdeal.Facts := ⟨by decide, by decide, by decide⟩

/-- The same at the shapes of the whole arrays. -/
theorem facts_pre_whole : Cert.Pre_scores_finite_ReferenceIdeal.Facts := ⟨by decide, by decide, by decide⟩

/-- Over the reals, every device of the kernel ends with the reference's result. -/
theorem algebraic : Cert.algebraic_KernelIdeal_ReferenceIdeal_pre_scores_finite_KernelIdeal (hPre_scores_finite_KernelIdeal := facts_pre) := by
  intro m g m' g' hp hb
  refine ⟨Cert.ReferenceIdeal.Value.res_main_v35 m' 0, ?_, ?_⟩
  · refine (θ_run Cert.KernelIdeal.defs _ _).mono (fun r h c => ⟨(h.1 c).1.trans ?_, (h.1 c).2⟩) (Cert.KernelIdeal.Pf.run_values m g)
    have hx := Cert.Equal.isNum_of_pre _ _ (hp 0).1
    have hq := fun d => Cert.Equal.isNum_of_pre _ _ (hp d).2.1
    have hk := Cert.Equal.isNum_of_pre _ _ (hp 0).2.2
    rw [(hb 0).1] at hx
    rw [(hb 0).2.2.1] at hk
    rw [Cert.ReferenceIdeal.Pf.res_eq]
    exact Cert.Equal.out_eq (Cert.KernelIdeal.Pf.ins m) _ _ _ _ _
      (fun d => (Cert.KernelIdeal.Pf.ins_x m d).trans (hb d).1) (fun d => (Cert.KernelIdeal.Pf.ins_wq m d).trans (hb d).2.1)
      (fun d => (hb d).2.2.1) (fun d => (hb d).2.2.2.1) (fun d => (Cert.KernelIdeal.Pf.ins_wo m d).trans (hb d).2.2.2.2)
      hx (Cert.Equal.isNum_cols _ fun d j => (congrFun (hb d).2.1 j) ▸ hq d j) hk c
  · exact (θ_run Cert.ReferenceIdeal.defs _ _).mono (fun r h => h 0) (Cert.ReferenceIdeal.Value.run (F := Ideal) m' g')

/-- The certificate's claim. -/
theorem claim : Cert.Claim := ⟨Cert.Kernel.Gen.facts, Cert.KernelIdeal.Gen.facts, Cert.ReferenceIdeal.Gen.facts, facts_pre, facts_pre_whole,
  frame_kernel, frame_ideal, fun m ρ _ => frame_ideal m ρ trivial, frame_reference, fun m ρ _ => frame_reference m ρ trivial, trivial, algebraic⟩

end Cert.Proof

end
